-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x384x224x224 : Shape := ⟨4, ![4, 384, 224, 224]⟩
abbrev S1 : Shape := ⟨1, ![1]⟩
abbrev S_ : Shape := ⟨0, ![]⟩
abbrev S2 : Shape := ⟨1, ![2]⟩
abbrev S7 : Shape := ⟨1, ![7]⟩
abbrev S2x1 : Shape := ⟨2, ![2, 1]⟩
abbrev S2x2 : Shape := ⟨2, ![2, 2]⟩
abbrev S1x2 : Shape := ⟨2, ![1, 2]⟩
abbrev S8 : Shape := ⟨1, ![8]⟩
abbrev S1x48x224x224 : Shape := ⟨4, ![1, 48, 224, 224]⟩

abbrev nBuf : Space → Nat
  | .hbm => 494
  | .vmem => 4
  | .smem => 1
  | _ => 0

abbrev hbmTy0_0 (i : Nat) : BufTy := match i % 128 with
  | 0 => ⟨S4x384x224x224, .f32⟩
  | 1 => ⟨S1, .i32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S7, .i32⟩
  | 13 => ⟨S1, .i32⟩
  | 14 => ⟨S_, .i32⟩
  | 15 => ⟨S1, .i32⟩
  | 16 => ⟨S_, .i32⟩
  | 17 => ⟨S2, .i64⟩
  | 18 => ⟨S_, .i64⟩
  | 19 => ⟨S2, .i64⟩
  | 20 => ⟨S2, .i64⟩
  | 21 => ⟨S_, .i64⟩
  | 22 => ⟨S2, .i64⟩
  | 23 => ⟨S2, .i64⟩
  | 24 => ⟨S2, .i32⟩
  | 25 => ⟨S2, .i32⟩
  | 26 => ⟨S_, .i32⟩
  | 27 => ⟨S_, .i32⟩
  | 28 => ⟨S_, .i32⟩
  | 29 => ⟨S2, .i32⟩
  | 30 => ⟨S2, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S2, .i32⟩
  | _ => ⟨S4x384x224x224, .f32⟩

abbrev hbmTy0_1 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S2x1, .i32⟩
  | 121 => ⟨S2x1, .i32⟩
  | 122 => ⟨S2x2, .i32⟩
  | 123 => ⟨S1x2, .i32⟩
  | 124 => ⟨S2, .i32⟩
  | 125 => ⟨S1x2, .i32⟩
  | 126 => ⟨S2, .i32⟩
  | 127 => ⟨S1, .i32⟩
  | _ => ⟨S4x384x224x224, .f32⟩

abbrev hbmTy0_2 (i : Nat) : BufTy := match i % 128 with
  | 0 => ⟨S_, .i32⟩
  | 1 => ⟨S1, .i32⟩
  | 2 => ⟨S_, .i32⟩
  | 3 => ⟨S7, .i64⟩
  | 4 => ⟨S_, .i64⟩
  | 5 => ⟨S7, .i64⟩
  | 6 => ⟨S7, .i64⟩
  | 7 => ⟨S_, .i64⟩
  | 8 => ⟨S7, .i64⟩
  | 9 => ⟨S7, .i64⟩
  | 10 => ⟨S7, .i32⟩
  | 11 => ⟨S7, .i32⟩
  | 12 => ⟨S_, .i32⟩
  | 13 => ⟨S_, .i32⟩
  | 14 => ⟨S_, .i32⟩
  | 15 => ⟨S7, .i32⟩
  | 16 => ⟨S7, .i32⟩
  | 17 => ⟨S7, .i32⟩
  | 18 => ⟨S7, .i32⟩
  | 19 => ⟨S7, .i32⟩
  | 20 => ⟨S_, .i32⟩
  | 21 => ⟨S7, .i32⟩
  | 22 => ⟨S7, .i32⟩
  | 23 => ⟨S_, .i32⟩
  | 24 => ⟨S7, .i32⟩
  | 25 => ⟨S7, .i32⟩
  | 26 => ⟨S7, .i32⟩
  | 27 => ⟨S7, .i32⟩
  | 28 => ⟨S7, .i32⟩
  | 29 => ⟨S_, .i32⟩
  | 30 => ⟨S7, .i32⟩
  | 31 => ⟨S7, .i32⟩
  | 32 => ⟨S_, .i32⟩
  | 33 => ⟨S7, .i32⟩
  | 34 => ⟨S7, .i32⟩
  | 35 => ⟨S7, .i32⟩
  | 36 => ⟨S7, .i32⟩
  | 37 => ⟨S7, .i32⟩
  | 38 => ⟨S_, .i32⟩
  | 39 => ⟨S7, .i32⟩
  | 40 => ⟨S7, .i32⟩
  | 41 => ⟨S_, .i32⟩
  | 42 => ⟨S7, .i32⟩
  | 43 => ⟨S7, .i32⟩
  | 44 => ⟨S7, .i32⟩
  | 45 => ⟨S7, .i32⟩
  | 46 => ⟨S7, .i32⟩
  | 47 => ⟨S_, .i32⟩
  | 48 => ⟨S7, .i32⟩
  | 49 => ⟨S7, .i32⟩
  | 50 => ⟨S_, .i32⟩
  | 51 => ⟨S7, .i32⟩
  | 52 => ⟨S7, .i32⟩
  | 53 => ⟨S7, .i32⟩
  | 54 => ⟨S7, .i32⟩
  | 55 => ⟨S7, .i32⟩
  | 56 => ⟨S7, .i32⟩
  | 57 => ⟨S7, .i32⟩
  | 58 => ⟨S7, .i32⟩
  | 59 => ⟨S_, .i32⟩
  | 60 => ⟨S7, .i32⟩
  | 61 => ⟨S7, .i32⟩
  | 62 => ⟨S7, .i32⟩
  | 63 => ⟨S_, .i32⟩
  | 64 => ⟨S7, .i32⟩
  | 65 => ⟨S7, .i32⟩
  | 66 => ⟨S_, .i32⟩
  | 67 => ⟨S7, .i32⟩
  | 68 => ⟨S7, .i32⟩
  | 69 => ⟨S7, .i32⟩
  | 70 => ⟨S7, .i32⟩
  | 71 => ⟨S7, .i32⟩
  | 72 => ⟨S_, .i32⟩
  | 73 => ⟨S7, .i32⟩
  | 74 => ⟨S7, .i32⟩
  | 75 => ⟨S_, .i32⟩
  | 76 => ⟨S7, .i32⟩
  | 77 => ⟨S7, .i32⟩
  | 78 => ⟨S7, .i32⟩
  | 79 => ⟨S7, .i32⟩
  | 80 => ⟨S7, .i32⟩
  | 81 => ⟨S_, .i32⟩
  | 82 => ⟨S7, .i32⟩
  | 83 => ⟨S7, .i32⟩
  | 84 => ⟨S_, .i32⟩
  | 85 => ⟨S7, .i32⟩
  | 86 => ⟨S7, .i32⟩
  | 87 => ⟨S7, .i32⟩
  | 88 => ⟨S7, .i32⟩
  | 89 => ⟨S7, .i32⟩
  | 90 => ⟨S_, .i32⟩
  | 91 => ⟨S7, .i32⟩
  | 92 => ⟨S7, .i32⟩
  | 93 => ⟨S_, .i32⟩
  | 94 => ⟨S7, .i32⟩
  | 95 => ⟨S7, .i32⟩
  | 96 => ⟨S7, .i32⟩
  | 97 => ⟨S7, .i32⟩
  | 98 => ⟨S7, .i32⟩
  | 99 => ⟨S7, .i32⟩
  | 100 => ⟨S7, .i32⟩
  | 101 => ⟨S7, .i32⟩
  | 102 => ⟨S_, .i32⟩
  | 103 => ⟨S7, .i32⟩
  | 104 => ⟨S7, .i32⟩
  | 105 => ⟨S7, .i32⟩
  | 106 => ⟨S_, .i32⟩
  | 107 => ⟨S7, .i32⟩
  | 108 => ⟨S7, .i32⟩
  | 109 => ⟨S_, .i32⟩
  | 110 => ⟨S7, .i32⟩
  | 111 => ⟨S7, .i32⟩
  | 112 => ⟨S7, .i32⟩
  | 113 => ⟨S7, .i32⟩
  | 114 => ⟨S7, .i32⟩
  | 115 => ⟨S_, .i32⟩
  | 116 => ⟨S7, .i32⟩
  | 117 => ⟨S7, .i32⟩
  | 118 => ⟨S_, .i32⟩
  | 119 => ⟨S7, .i32⟩
  | 120 => ⟨S7, .i32⟩
  | 121 => ⟨S7, .i32⟩
  | 122 => ⟨S7, .i32⟩
  | 123 => ⟨S7, .i32⟩
  | 124 => ⟨S_, .i32⟩
  | 125 => ⟨S7, .i32⟩
  | 126 => ⟨S7, .i32⟩
  | 127 => ⟨S_, .i32⟩
  | _ => ⟨S4x384x224x224, .f32⟩

abbrev hbmTy0_3 (i : Nat) : BufTy := match i % 128 with
  | 0 => ⟨S7, .i32⟩
  | 1 => ⟨S7, .i32⟩
  | 2 => ⟨S7, .i32⟩
  | 3 => ⟨S7, .i32⟩
  | 4 => ⟨S7, .i32⟩
  | 5 => ⟨S_, .i32⟩
  | 6 => ⟨S7, .i32⟩
  | 7 => ⟨S7, .i32⟩
  | 8 => ⟨S_, .i32⟩
  | 9 => ⟨S7, .i32⟩
  | 10 => ⟨S7, .i32⟩
  | 11 => ⟨S7, .i32⟩
  | 12 => ⟨S7, .i32⟩
  | 13 => ⟨S7, .i32⟩
  | 14 => ⟨S7, .i32⟩
  | 15 => ⟨S7, .i32⟩
  | 16 => ⟨S7, .i32⟩
  | 17 => ⟨S_, .i32⟩
  | 18 => ⟨S7, .i32⟩
  | 19 => ⟨S7, .i32⟩
  | 20 => ⟨S7, .i32⟩
  | 21 => ⟨S_, .i32⟩
  | 22 => ⟨S7, .i32⟩
  | 23 => ⟨S7, .i32⟩
  | 24 => ⟨S_, .i32⟩
  | 25 => ⟨S7, .i32⟩
  | 26 => ⟨S7, .i32⟩
  | 27 => ⟨S7, .i32⟩
  | 28 => ⟨S7, .i32⟩
  | 29 => ⟨S7, .i32⟩
  | 30 => ⟨S_, .i32⟩
  | 31 => ⟨S7, .i32⟩
  | 32 => ⟨S7, .i32⟩
  | 33 => ⟨S_, .i32⟩
  | 34 => ⟨S7, .i32⟩
  | 35 => ⟨S7, .i32⟩
  | 36 => ⟨S7, .i32⟩
  | 37 => ⟨S7, .i32⟩
  | 38 => ⟨S7, .i32⟩
  | 39 => ⟨S_, .i32⟩
  | 40 => ⟨S7, .i32⟩
  | 41 => ⟨S7, .i32⟩
  | 42 => ⟨S_, .i32⟩
  | 43 => ⟨S7, .i32⟩
  | 44 => ⟨S7, .i32⟩
  | 45 => ⟨S7, .i32⟩
  | 46 => ⟨S7, .i32⟩
  | 47 => ⟨S7, .i32⟩
  | 48 => ⟨S_, .i32⟩
  | 49 => ⟨S7, .i32⟩
  | 50 => ⟨S7, .i32⟩
  | 51 => ⟨S_, .i32⟩
  | 52 => ⟨S7, .i32⟩
  | 53 => ⟨S7, .i32⟩
  | 54 => ⟨S7, .i32⟩
  | 55 => ⟨S7, .i32⟩
  | 56 => ⟨S7, .i32⟩
  | 57 => ⟨S7, .i32⟩
  | 58 => ⟨S7, .i32⟩
  | 59 => ⟨S7, .i32⟩
  | 60 => ⟨S_, .i32⟩
  | 61 => ⟨S7, .i32⟩
  | 62 => ⟨S7, .i32⟩
  | 63 => ⟨S7, .i32⟩
  | 64 => ⟨S_, .i32⟩
  | 65 => ⟨S7, .i32⟩
  | 66 => ⟨S7, .i32⟩
  | 67 => ⟨S_, .i32⟩
  | 68 => ⟨S7, .i32⟩
  | 69 => ⟨S7, .i32⟩
  | 70 => ⟨S7, .i32⟩
  | 71 => ⟨S7, .i32⟩
  | 72 => ⟨S7, .i32⟩
  | 73 => ⟨S_, .i32⟩
  | 74 => ⟨S7, .i32⟩
  | 75 => ⟨S7, .i32⟩
  | 76 => ⟨S_, .i32⟩
  | 77 => ⟨S7, .i32⟩
  | 78 => ⟨S7, .i32⟩
  | 79 => ⟨S7, .i32⟩
  | 80 => ⟨S7, .i32⟩
  | 81 => ⟨S7, .i32⟩
  | 82 => ⟨S_, .i32⟩
  | 83 => ⟨S7, .i32⟩
  | 84 => ⟨S7, .i32⟩
  | 85 => ⟨S_, .i32⟩
  | 86 => ⟨S7, .i32⟩
  | 87 => ⟨S7, .i32⟩
  | 88 => ⟨S7, .i32⟩
  | 89 => ⟨S7, .i32⟩
  | 90 => ⟨S7, .i32⟩
  | 91 => ⟨S_, .i32⟩
  | 92 => ⟨S7, .i32⟩
  | 93 => ⟨S7, .i32⟩
  | 94 => ⟨S_, .i32⟩
  | 95 => ⟨S7, .i32⟩
  | 96 => ⟨S7, .i32⟩
  | 97 => ⟨S7, .i32⟩
  | 98 => ⟨S7, .i32⟩
  | 99 => ⟨S7, .i32⟩
  | 100 => ⟨S7, .i32⟩
  | 101 => ⟨S7, .i32⟩
  | 102 => ⟨S7, .i32⟩
  | 103 => ⟨S_, .i32⟩
  | 104 => ⟨S7, .i32⟩
  | 105 => ⟨S7, .i32⟩
  | 106 => ⟨S7, .i32⟩
  | 107 => ⟨S7, .i32⟩
  | 108 => ⟨S7, .i32⟩
  | 109 => ⟨S4x384x224x224, .f32⟩
  | _ => ⟨S4x384x224x224, .f32⟩

abbrev hbmTy (i : Nat) : BufTy := match i / 128 with
  | 0 => hbmTy0_0 i
  | 1 => hbmTy0_1 i
  | 2 => hbmTy0_2 i
  | 3 => hbmTy0_3 i
  | _ => ⟨S4x384x224x224, .f32⟩

abbrev bufTy : (tb : Table) → Fin (tcTables nBuf tb) → BufTy
  | .hbm, ⟨i, _⟩ => hbmTy i
  | .local _ .vmem, ⟨0, _⟩ => ⟨S1x48x224x224, .f32⟩
  | .local _ .vmem, ⟨1, _⟩ => ⟨S1x48x224x224, .f32⟩
  | .local _ .vmem, ⟨2, _⟩ => ⟨S1x48x224x224, .f32⟩
  | .local _ .vmem, ⟨3, _⟩ => ⟨S1x48x224x224, .f32⟩
  | .local _ .smem, ⟨0, _⟩ => ⟨S8, .i32⟩
  | _, _ => ⟨S4x384x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_c : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_c_0 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_call0_v0 : Ref sig .tc := ⟨.hbm, 26, rfl⟩
abbrev main_call0_call0_call0_c : Ref sig .tc := ⟨.hbm, 27, rfl⟩
abbrev main_call0_call0_call0_v1 : Ref sig .tc := ⟨.hbm, 28, rfl⟩
abbrev main_call0_call0_call0_v2 : Ref sig .tc := ⟨.hbm, 29, rfl⟩
abbrev main_call0_call0_call0_v3 : Ref sig .tc := ⟨.hbm, 30, rfl⟩
abbrev main_call0_call0_call0_v4 : Ref sig .tc := ⟨.hbm, 31, rfl⟩
abbrev main_call0_call0_call0_v5 : Ref sig .tc := ⟨.hbm, 32, rfl⟩
abbrev main_call0_call0_call0_v6 : Ref sig .tc := ⟨.hbm, 33, rfl⟩
abbrev main_call0_call0_call0_c_0 : Ref sig .tc := ⟨.hbm, 34, rfl⟩
abbrev main_call0_call0_call0_v7 : Ref sig .tc := ⟨.hbm, 35, rfl⟩
abbrev main_call0_call0_call0_v8 : Ref sig .tc := ⟨.hbm, 36, rfl⟩
abbrev main_call0_call0_call0_c_1 : Ref sig .tc := ⟨.hbm, 37, rfl⟩
abbrev main_call0_call0_call0_v9 : Ref sig .tc := ⟨.hbm, 38, rfl⟩
abbrev main_call0_call0_call0_v10 : Ref sig .tc := ⟨.hbm, 39, rfl⟩
abbrev main_call0_call0_call0_v11 : Ref sig .tc := ⟨.hbm, 40, rfl⟩
abbrev main_call0_call0_call0_v12 : Ref sig .tc := ⟨.hbm, 41, rfl⟩
abbrev main_call0_call0_call0_v13 : Ref sig .tc := ⟨.hbm, 42, rfl⟩
abbrev main_call0_call0_call0_c_2 : Ref sig .tc := ⟨.hbm, 43, rfl⟩
abbrev main_call0_call0_call0_v14 : Ref sig .tc := ⟨.hbm, 44, rfl⟩
abbrev main_call0_call0_call0_v15 : Ref sig .tc := ⟨.hbm, 45, rfl⟩
abbrev main_call0_call0_call0_c_3 : Ref sig .tc := ⟨.hbm, 46, rfl⟩
abbrev main_call0_call0_call0_v16 : Ref sig .tc := ⟨.hbm, 47, rfl⟩
abbrev main_call0_call0_call0_v17 : Ref sig .tc := ⟨.hbm, 48, rfl⟩
abbrev main_call0_call0_call0_v18 : Ref sig .tc := ⟨.hbm, 49, rfl⟩
abbrev main_call0_call0_call0_v19 : Ref sig .tc := ⟨.hbm, 50, rfl⟩
abbrev main_call0_call0_call0_v20 : Ref sig .tc := ⟨.hbm, 51, rfl⟩
abbrev main_call0_call0_call0_c_4 : Ref sig .tc := ⟨.hbm, 52, rfl⟩
abbrev main_call0_call0_call0_v21 : Ref sig .tc := ⟨.hbm, 53, rfl⟩
abbrev main_call0_call0_call0_v22 : Ref sig .tc := ⟨.hbm, 54, rfl⟩
abbrev main_call0_call0_call0_c_5 : Ref sig .tc := ⟨.hbm, 55, rfl⟩
abbrev main_call0_call0_call0_v23 : Ref sig .tc := ⟨.hbm, 56, rfl⟩
abbrev main_call0_call0_call0_v24 : Ref sig .tc := ⟨.hbm, 57, rfl⟩
abbrev main_call0_call0_call0_v25 : Ref sig .tc := ⟨.hbm, 58, rfl⟩
abbrev main_call0_call0_call0_v26 : Ref sig .tc := ⟨.hbm, 59, rfl⟩
abbrev main_call0_call0_call0_v27 : Ref sig .tc := ⟨.hbm, 60, rfl⟩
abbrev main_call0_call0_call0_c_6 : Ref sig .tc := ⟨.hbm, 61, rfl⟩
abbrev main_call0_call0_call0_v28 : Ref sig .tc := ⟨.hbm, 62, rfl⟩
abbrev main_call0_call0_call0_v29 : Ref sig .tc := ⟨.hbm, 63, rfl⟩
abbrev main_call0_call0_call0_c_7 : Ref sig .tc := ⟨.hbm, 64, rfl⟩
abbrev main_call0_call0_call0_v30 : Ref sig .tc := ⟨.hbm, 65, rfl⟩
abbrev main_call0_call0_call0_v31 : Ref sig .tc := ⟨.hbm, 66, rfl⟩
abbrev main_call0_call0_call0_v32 : Ref sig .tc := ⟨.hbm, 67, rfl⟩
abbrev main_call0_call0_call0_v33 : Ref sig .tc := ⟨.hbm, 68, rfl⟩
abbrev main_call0_call0_call0_v34 : Ref sig .tc := ⟨.hbm, 69, rfl⟩
abbrev main_call0_call0_call0_v35 : Ref sig .tc := ⟨.hbm, 70, rfl⟩
abbrev main_call0_call0_call0_v36 : Ref sig .tc := ⟨.hbm, 71, rfl⟩
abbrev main_call0_call0_call0_v37 : Ref sig .tc := ⟨.hbm, 72, rfl⟩
abbrev main_call0_call0_call0_c_8 : Ref sig .tc := ⟨.hbm, 73, rfl⟩
abbrev main_call0_call0_call0_v38 : Ref sig .tc := ⟨.hbm, 74, rfl⟩
abbrev main_call0_call0_call0_v39 : Ref sig .tc := ⟨.hbm, 75, rfl⟩
abbrev main_call0_call0_call0_v40 : Ref sig .tc := ⟨.hbm, 76, rfl⟩
abbrev main_call0_call0_call0_c_9 : Ref sig .tc := ⟨.hbm, 77, rfl⟩
abbrev main_call0_call0_call0_v41 : Ref sig .tc := ⟨.hbm, 78, rfl⟩
abbrev main_call0_call0_call0_v42 : Ref sig .tc := ⟨.hbm, 79, rfl⟩
abbrev main_call0_call0_call0_c_10 : Ref sig .tc := ⟨.hbm, 80, rfl⟩
abbrev main_call0_call0_call0_v43 : Ref sig .tc := ⟨.hbm, 81, rfl⟩
abbrev main_call0_call0_call0_v44 : Ref sig .tc := ⟨.hbm, 82, rfl⟩
abbrev main_call0_call0_call0_v45 : Ref sig .tc := ⟨.hbm, 83, rfl⟩
abbrev main_call0_call0_call0_v46 : Ref sig .tc := ⟨.hbm, 84, rfl⟩
abbrev main_call0_call0_call0_v47 : Ref sig .tc := ⟨.hbm, 85, rfl⟩
abbrev main_call0_call0_call0_c_11 : Ref sig .tc := ⟨.hbm, 86, rfl⟩
abbrev main_call0_call0_call0_v48 : Ref sig .tc := ⟨.hbm, 87, rfl⟩
abbrev main_call0_call0_call0_v49 : Ref sig .tc := ⟨.hbm, 88, rfl⟩
abbrev main_call0_call0_call0_c_12 : Ref sig .tc := ⟨.hbm, 89, rfl⟩
abbrev main_call0_call0_call0_v50 : Ref sig .tc := ⟨.hbm, 90, rfl⟩
abbrev main_call0_call0_call0_v51 : Ref sig .tc := ⟨.hbm, 91, rfl⟩
abbrev main_call0_call0_call0_v52 : Ref sig .tc := ⟨.hbm, 92, rfl⟩
abbrev main_call0_call0_call0_v53 : Ref sig .tc := ⟨.hbm, 93, rfl⟩
abbrev main_call0_call0_call0_v54 : Ref sig .tc := ⟨.hbm, 94, rfl⟩
abbrev main_call0_call0_call0_c_13 : Ref sig .tc := ⟨.hbm, 95, rfl⟩
abbrev main_call0_call0_call0_v55 : Ref sig .tc := ⟨.hbm, 96, rfl⟩
abbrev main_call0_call0_call0_v56 : Ref sig .tc := ⟨.hbm, 97, rfl⟩
abbrev main_call0_call0_call0_c_14 : Ref sig .tc := ⟨.hbm, 98, rfl⟩
abbrev main_call0_call0_call0_v57 : Ref sig .tc := ⟨.hbm, 99, rfl⟩
abbrev main_call0_call0_call0_v58 : Ref sig .tc := ⟨.hbm, 100, rfl⟩
abbrev main_call0_call0_call0_v59 : Ref sig .tc := ⟨.hbm, 101, rfl⟩
abbrev main_call0_call0_call0_v60 : Ref sig .tc := ⟨.hbm, 102, rfl⟩
abbrev main_call0_call0_call0_v61 : Ref sig .tc := ⟨.hbm, 103, rfl⟩
abbrev main_call0_call0_call0_c_15 : Ref sig .tc := ⟨.hbm, 104, rfl⟩
abbrev main_call0_call0_call0_v62 : Ref sig .tc := ⟨.hbm, 105, rfl⟩
abbrev main_call0_call0_call0_v63 : Ref sig .tc := ⟨.hbm, 106, rfl⟩
abbrev main_call0_call0_call0_c_16 : Ref sig .tc := ⟨.hbm, 107, rfl⟩
abbrev main_call0_call0_call0_v64 : Ref sig .tc := ⟨.hbm, 108, rfl⟩
abbrev main_call0_call0_call0_v65 : Ref sig .tc := ⟨.hbm, 109, rfl⟩
abbrev main_call0_call0_call0_v66 : Ref sig .tc := ⟨.hbm, 110, rfl⟩
abbrev main_call0_call0_call0_v67 : Ref sig .tc := ⟨.hbm, 111, rfl⟩
abbrev main_call0_call0_call0_v68 : Ref sig .tc := ⟨.hbm, 112, rfl⟩
abbrev main_call0_call0_call0_v69 : Ref sig .tc := ⟨.hbm, 113, rfl⟩
abbrev main_call0_call0_call0_v70 : Ref sig .tc := ⟨.hbm, 114, rfl⟩
abbrev main_call0_call0_call0_v71 : Ref sig .tc := ⟨.hbm, 115, rfl⟩
abbrev main_call0_call0_call0_c_17 : Ref sig .tc := ⟨.hbm, 116, rfl⟩
abbrev main_call0_call0_call0_v72 : Ref sig .tc := ⟨.hbm, 117, rfl⟩
abbrev main_call0_call0_call0_v73 : Ref sig .tc := ⟨.hbm, 118, rfl⟩
abbrev main_call0_call0_call0_v74 : Ref sig .tc := ⟨.hbm, 119, rfl⟩
abbrev main_call0_call0_call0_c_18 : Ref sig .tc := ⟨.hbm, 120, rfl⟩
abbrev main_call0_call0_call0_v75 : Ref sig .tc := ⟨.hbm, 121, rfl⟩
abbrev main_call0_call0_call0_v76 : Ref sig .tc := ⟨.hbm, 122, rfl⟩
abbrev main_call0_call0_call0_c_19 : Ref sig .tc := ⟨.hbm, 123, rfl⟩
abbrev main_call0_call0_call0_v77 : Ref sig .tc := ⟨.hbm, 124, rfl⟩
abbrev main_call0_call0_call0_v78 : Ref sig .tc := ⟨.hbm, 125, rfl⟩
abbrev main_call0_call0_call0_v79 : Ref sig .tc := ⟨.hbm, 126, rfl⟩
abbrev main_call0_call0_call0_v80 : Ref sig .tc := ⟨.hbm, 127, rfl⟩
abbrev main_call0_call0_call0_v81 : Ref sig .tc := ⟨.hbm, 128, rfl⟩
abbrev main_call0_call0_call0_c_20 : Ref sig .tc := ⟨.hbm, 129, rfl⟩
abbrev main_call0_call0_call0_v82 : Ref sig .tc := ⟨.hbm, 130, rfl⟩
abbrev main_call0_call0_call0_v83 : Ref sig .tc := ⟨.hbm, 131, rfl⟩
abbrev main_call0_call0_call0_c_21 : Ref sig .tc := ⟨.hbm, 132, rfl⟩
abbrev main_call0_call0_call0_v84 : Ref sig .tc := ⟨.hbm, 133, rfl⟩
abbrev main_call0_call0_call0_v85 : Ref sig .tc := ⟨.hbm, 134, rfl⟩
abbrev main_call0_call0_call0_v86 : Ref sig .tc := ⟨.hbm, 135, rfl⟩
abbrev main_call0_call0_call0_v87 : Ref sig .tc := ⟨.hbm, 136, rfl⟩
abbrev main_call0_call0_call0_v88 : Ref sig .tc := ⟨.hbm, 137, rfl⟩
abbrev main_call0_call0_call0_c_22 : Ref sig .tc := ⟨.hbm, 138, rfl⟩
abbrev main_call0_call0_call0_v89 : Ref sig .tc := ⟨.hbm, 139, rfl⟩
abbrev main_call0_call0_call0_v90 : Ref sig .tc := ⟨.hbm, 140, rfl⟩
abbrev main_call0_call0_call0_c_23 : Ref sig .tc := ⟨.hbm, 141, rfl⟩
abbrev main_call0_call0_call0_v91 : Ref sig .tc := ⟨.hbm, 142, rfl⟩
abbrev main_call0_call0_call0_v92 : Ref sig .tc := ⟨.hbm, 143, rfl⟩
abbrev main_call0_call0_call0_v93 : Ref sig .tc := ⟨.hbm, 144, rfl⟩
abbrev main_call0_call0_call0_v94 : Ref sig .tc := ⟨.hbm, 145, rfl⟩
abbrev main_call0_call0_call0_v95 : Ref sig .tc := ⟨.hbm, 146, rfl⟩
abbrev main_call0_call0_call0_c_24 : Ref sig .tc := ⟨.hbm, 147, rfl⟩
abbrev main_call0_call0_call0_v96 : Ref sig .tc := ⟨.hbm, 148, rfl⟩
abbrev main_call0_call0_call0_v97 : Ref sig .tc := ⟨.hbm, 149, rfl⟩
abbrev main_call0_call0_call0_c_25 : Ref sig .tc := ⟨.hbm, 150, rfl⟩
abbrev main_call0_call0_call0_v98 : Ref sig .tc := ⟨.hbm, 151, rfl⟩
abbrev main_call0_call0_call0_v99 : Ref sig .tc := ⟨.hbm, 152, rfl⟩
abbrev main_call0_call0_call0_v100 : Ref sig .tc := ⟨.hbm, 153, rfl⟩
abbrev main_call0_call0_call0_v101 : Ref sig .tc := ⟨.hbm, 154, rfl⟩
abbrev main_call0_call0_call0_v102 : Ref sig .tc := ⟨.hbm, 155, rfl⟩
abbrev main_call0_call0_call0_v103 : Ref sig .tc := ⟨.hbm, 156, rfl⟩
abbrev main_call0_call0_call0_v104 : Ref sig .tc := ⟨.hbm, 157, rfl⟩
abbrev main_call0_call0_call0_v105 : Ref sig .tc := ⟨.hbm, 158, rfl⟩
abbrev main_call0_call0_call0_c_26 : Ref sig .tc := ⟨.hbm, 159, rfl⟩
abbrev main_call0_call0_call0_v106 : Ref sig .tc := ⟨.hbm, 160, rfl⟩
abbrev main_call0_call0_call0_v107 : Ref sig .tc := ⟨.hbm, 161, rfl⟩
abbrev main_call0_call0_call0_v108 : Ref sig .tc := ⟨.hbm, 162, rfl⟩
abbrev main_call0_call0_call0_c_27 : Ref sig .tc := ⟨.hbm, 163, rfl⟩
abbrev main_call0_call0_call0_v109 : Ref sig .tc := ⟨.hbm, 164, rfl⟩
abbrev main_call0_call0_call0_v110 : Ref sig .tc := ⟨.hbm, 165, rfl⟩
abbrev main_call0_call0_call0_c_28 : Ref sig .tc := ⟨.hbm, 166, rfl⟩
abbrev main_call0_call0_call0_v111 : Ref sig .tc := ⟨.hbm, 167, rfl⟩
abbrev main_call0_call0_call0_v112 : Ref sig .tc := ⟨.hbm, 168, rfl⟩
abbrev main_call0_call0_call0_v113 : Ref sig .tc := ⟨.hbm, 169, rfl⟩
abbrev main_call0_call0_call0_v114 : Ref sig .tc := ⟨.hbm, 170, rfl⟩
abbrev main_call0_call0_call0_v115 : Ref sig .tc := ⟨.hbm, 171, rfl⟩
abbrev main_call0_call0_call0_c_29 : Ref sig .tc := ⟨.hbm, 172, rfl⟩
abbrev main_call0_call0_call0_v116 : Ref sig .tc := ⟨.hbm, 173, rfl⟩
abbrev main_call0_call0_call0_v117 : Ref sig .tc := ⟨.hbm, 174, rfl⟩
abbrev main_call0_call0_call0_c_30 : Ref sig .tc := ⟨.hbm, 175, rfl⟩
abbrev main_call0_call0_call0_v118 : Ref sig .tc := ⟨.hbm, 176, rfl⟩
abbrev main_call0_call0_call0_v119 : Ref sig .tc := ⟨.hbm, 177, rfl⟩
abbrev main_call0_call0_call0_v120 : Ref sig .tc := ⟨.hbm, 178, rfl⟩
abbrev main_call0_call0_call0_v121 : Ref sig .tc := ⟨.hbm, 179, rfl⟩
abbrev main_call0_call0_call0_v122 : Ref sig .tc := ⟨.hbm, 180, rfl⟩
abbrev main_call0_call0_call0_c_31 : Ref sig .tc := ⟨.hbm, 181, rfl⟩
abbrev main_call0_call0_call0_v123 : Ref sig .tc := ⟨.hbm, 182, rfl⟩
abbrev main_call0_call0_call0_v124 : Ref sig .tc := ⟨.hbm, 183, rfl⟩
abbrev main_call0_call0_call0_c_32 : Ref sig .tc := ⟨.hbm, 184, rfl⟩
abbrev main_call0_call0_call0_v125 : Ref sig .tc := ⟨.hbm, 185, rfl⟩
abbrev main_call0_call0_call0_v126 : Ref sig .tc := ⟨.hbm, 186, rfl⟩
abbrev main_call0_call0_call0_v127 : Ref sig .tc := ⟨.hbm, 187, rfl⟩
abbrev main_call0_call0_call0_v128 : Ref sig .tc := ⟨.hbm, 188, rfl⟩
abbrev main_call0_call0_call0_v129 : Ref sig .tc := ⟨.hbm, 189, rfl⟩
abbrev main_call0_call0_call0_c_33 : Ref sig .tc := ⟨.hbm, 190, rfl⟩
abbrev main_call0_call0_call0_v130 : Ref sig .tc := ⟨.hbm, 191, rfl⟩
abbrev main_call0_call0_call0_v131 : Ref sig .tc := ⟨.hbm, 192, rfl⟩
abbrev main_call0_call0_call0_c_34 : Ref sig .tc := ⟨.hbm, 193, rfl⟩
abbrev main_call0_call0_call0_v132 : Ref sig .tc := ⟨.hbm, 194, rfl⟩
abbrev main_call0_call0_call0_v133 : Ref sig .tc := ⟨.hbm, 195, rfl⟩
abbrev main_call0_call0_call0_v134 : Ref sig .tc := ⟨.hbm, 196, rfl⟩
abbrev main_call0_call0_call0_v135 : Ref sig .tc := ⟨.hbm, 197, rfl⟩
abbrev main_call0_call0_call0_v136 : Ref sig .tc := ⟨.hbm, 198, rfl⟩
abbrev main_call0_call0_call0_v137 : Ref sig .tc := ⟨.hbm, 199, rfl⟩
abbrev main_call0_call0_call0_v138 : Ref sig .tc := ⟨.hbm, 200, rfl⟩
abbrev main_call0_call0_call0_v139 : Ref sig .tc := ⟨.hbm, 201, rfl⟩
abbrev main_call0_call0_call0_c_35 : Ref sig .tc := ⟨.hbm, 202, rfl⟩
abbrev main_call0_call0_call0_v140 : Ref sig .tc := ⟨.hbm, 203, rfl⟩
abbrev main_call0_call0_call0_v141 : Ref sig .tc := ⟨.hbm, 204, rfl⟩
abbrev main_call0_call0_call0_v142 : Ref sig .tc := ⟨.hbm, 205, rfl⟩
abbrev main_call0_call0_call0_c_36 : Ref sig .tc := ⟨.hbm, 206, rfl⟩
abbrev main_call0_call0_call0_v143 : Ref sig .tc := ⟨.hbm, 207, rfl⟩
abbrev main_call0_call0_call0_v144 : Ref sig .tc := ⟨.hbm, 208, rfl⟩
abbrev main_call0_call0_call0_c_37 : Ref sig .tc := ⟨.hbm, 209, rfl⟩
abbrev main_call0_call0_call0_v145 : Ref sig .tc := ⟨.hbm, 210, rfl⟩
abbrev main_call0_call0_call0_v146 : Ref sig .tc := ⟨.hbm, 211, rfl⟩
abbrev main_call0_call0_call0_v147 : Ref sig .tc := ⟨.hbm, 212, rfl⟩
abbrev main_call0_call0_call0_v148 : Ref sig .tc := ⟨.hbm, 213, rfl⟩
abbrev main_call0_call0_call0_v149 : Ref sig .tc := ⟨.hbm, 214, rfl⟩
abbrev main_call0_call0_call0_c_38 : Ref sig .tc := ⟨.hbm, 215, rfl⟩
abbrev main_call0_call0_call0_v150 : Ref sig .tc := ⟨.hbm, 216, rfl⟩
abbrev main_call0_call0_call0_v151 : Ref sig .tc := ⟨.hbm, 217, rfl⟩
abbrev main_call0_call0_call0_c_39 : Ref sig .tc := ⟨.hbm, 218, rfl⟩
abbrev main_call0_call0_call0_v152 : Ref sig .tc := ⟨.hbm, 219, rfl⟩
abbrev main_call0_call0_call0_v153 : Ref sig .tc := ⟨.hbm, 220, rfl⟩
abbrev main_call0_call0_call0_v154 : Ref sig .tc := ⟨.hbm, 221, rfl⟩
abbrev main_call0_call0_call0_v155 : Ref sig .tc := ⟨.hbm, 222, rfl⟩
abbrev main_call0_call0_call0_v156 : Ref sig .tc := ⟨.hbm, 223, rfl⟩
abbrev main_call0_call0_call0_c_40 : Ref sig .tc := ⟨.hbm, 224, rfl⟩
abbrev main_call0_call0_call0_v157 : Ref sig .tc := ⟨.hbm, 225, rfl⟩
abbrev main_call0_call0_call0_v158 : Ref sig .tc := ⟨.hbm, 226, rfl⟩
abbrev main_call0_call0_call0_c_41 : Ref sig .tc := ⟨.hbm, 227, rfl⟩
abbrev main_call0_call0_call0_v159 : Ref sig .tc := ⟨.hbm, 228, rfl⟩
abbrev main_call0_call0_call0_v160 : Ref sig .tc := ⟨.hbm, 229, rfl⟩
abbrev main_call0_call0_call0_v161 : Ref sig .tc := ⟨.hbm, 230, rfl⟩
abbrev main_call0_call0_call0_v162 : Ref sig .tc := ⟨.hbm, 231, rfl⟩
abbrev main_call0_call0_call0_v163 : Ref sig .tc := ⟨.hbm, 232, rfl⟩
abbrev main_call0_call0_call0_c_42 : Ref sig .tc := ⟨.hbm, 233, rfl⟩
abbrev main_call0_call0_call0_v164 : Ref sig .tc := ⟨.hbm, 234, rfl⟩
abbrev main_call0_call0_call0_v165 : Ref sig .tc := ⟨.hbm, 235, rfl⟩
abbrev main_call0_call0_call0_c_43 : Ref sig .tc := ⟨.hbm, 236, rfl⟩
abbrev main_call0_call0_call0_v166 : Ref sig .tc := ⟨.hbm, 237, rfl⟩
abbrev main_call0_call0_call0_v167 : Ref sig .tc := ⟨.hbm, 238, rfl⟩
abbrev main_call0_call0_call0_v168 : Ref sig .tc := ⟨.hbm, 239, rfl⟩
abbrev main_call0_call0_call0_v169 : Ref sig .tc := ⟨.hbm, 240, rfl⟩
abbrev main_call0_call0_call0_v170 : Ref sig .tc := ⟨.hbm, 241, rfl⟩
abbrev main_call0_call0_v11_0 : Ref sig .tc := ⟨.hbm, 242, rfl⟩
abbrev main_call0_call0_call0_v172 : Ref sig .tc := ⟨.hbm, 243, rfl⟩
abbrev main_call0_call0_call0_v173 : Ref sig .tc := ⟨.hbm, 244, rfl⟩
abbrev main_call0_call0_call0_c_44 : Ref sig .tc := ⟨.hbm, 245, rfl⟩
abbrev main_call0_call0_call0_v174 : Ref sig .tc := ⟨.hbm, 246, rfl⟩
abbrev main_call0_call0_v11_1 : Ref sig .tc := ⟨.hbm, 247, rfl⟩
abbrev main_call0_call0_v12 : Ref sig .tc := ⟨.hbm, 248, rfl⟩
abbrev main_call0_call0_v13 : Ref sig .tc := ⟨.hbm, 249, rfl⟩
abbrev main_call0_v0 : Ref sig .tc := ⟨.hbm, 250, rfl⟩
abbrev main_call0_v1 : Ref sig .tc := ⟨.hbm, 251, rfl⟩
abbrev main_call0_v2 : Ref sig .tc := ⟨.hbm, 252, rfl⟩
abbrev main_call0_v3 : Ref sig .tc := ⟨.hbm, 253, rfl⟩
abbrev main_call0_v4 : Ref sig .tc := ⟨.hbm, 254, rfl⟩
abbrev main_call0_v5 : Ref sig .tc := ⟨.hbm, 255, rfl⟩
abbrev main_call0_v6 : Ref sig .tc := ⟨.hbm, 256, rfl⟩
abbrev main_call0_v7 : Ref sig .tc := ⟨.hbm, 257, rfl⟩
abbrev main_call0_v8 : Ref sig .tc := ⟨.hbm, 258, rfl⟩
abbrev main_call0_v9 : Ref sig .tc := ⟨.hbm, 259, rfl⟩
abbrev main_call0_c : Ref sig .tc := ⟨.hbm, 260, rfl⟩
abbrev main_call0_v10 : Ref sig .tc := ⟨.hbm, 261, rfl⟩
abbrev main_call0_v11 : Ref sig .tc := ⟨.hbm, 262, rfl⟩
abbrev main_call0_c_0 : Ref sig .tc := ⟨.hbm, 263, rfl⟩
abbrev main_call0_v12 : Ref sig .tc := ⟨.hbm, 264, rfl⟩
abbrev main_call0_v13 : Ref sig .tc := ⟨.hbm, 265, rfl⟩
abbrev main_call0_v14 : Ref sig .tc := ⟨.hbm, 266, rfl⟩
abbrev main_call0_v15 : Ref sig .tc := ⟨.hbm, 267, rfl⟩
abbrev main_call0_call1_v0 : Ref sig .tc := ⟨.hbm, 268, rfl⟩
abbrev main_call0_call1_c : Ref sig .tc := ⟨.hbm, 269, rfl⟩
abbrev main_call0_call1_v1 : Ref sig .tc := ⟨.hbm, 270, rfl⟩
abbrev main_call0_call1_v2 : Ref sig .tc := ⟨.hbm, 271, rfl⟩
abbrev main_call0_call1_v3 : Ref sig .tc := ⟨.hbm, 272, rfl⟩
abbrev main_call0_call1_v4 : Ref sig .tc := ⟨.hbm, 273, rfl⟩
abbrev main_call0_call1_v5 : Ref sig .tc := ⟨.hbm, 274, rfl⟩
abbrev main_call0_call1_v6 : Ref sig .tc := ⟨.hbm, 275, rfl⟩
abbrev main_call0_call1_c_0 : Ref sig .tc := ⟨.hbm, 276, rfl⟩
abbrev main_call0_call1_v7 : Ref sig .tc := ⟨.hbm, 277, rfl⟩
abbrev main_call0_call1_v8 : Ref sig .tc := ⟨.hbm, 278, rfl⟩
abbrev main_call0_call1_c_1 : Ref sig .tc := ⟨.hbm, 279, rfl⟩
abbrev main_call0_call1_v9 : Ref sig .tc := ⟨.hbm, 280, rfl⟩
abbrev main_call0_call1_v10 : Ref sig .tc := ⟨.hbm, 281, rfl⟩
abbrev main_call0_call1_v11 : Ref sig .tc := ⟨.hbm, 282, rfl⟩
abbrev main_call0_call1_v12 : Ref sig .tc := ⟨.hbm, 283, rfl⟩
abbrev main_call0_call1_v13 : Ref sig .tc := ⟨.hbm, 284, rfl⟩
abbrev main_call0_call1_c_2 : Ref sig .tc := ⟨.hbm, 285, rfl⟩
abbrev main_call0_call1_v14 : Ref sig .tc := ⟨.hbm, 286, rfl⟩
abbrev main_call0_call1_v15 : Ref sig .tc := ⟨.hbm, 287, rfl⟩
abbrev main_call0_call1_c_3 : Ref sig .tc := ⟨.hbm, 288, rfl⟩
abbrev main_call0_call1_v16 : Ref sig .tc := ⟨.hbm, 289, rfl⟩
abbrev main_call0_call1_v17 : Ref sig .tc := ⟨.hbm, 290, rfl⟩
abbrev main_call0_call1_v18 : Ref sig .tc := ⟨.hbm, 291, rfl⟩
abbrev main_call0_call1_v19 : Ref sig .tc := ⟨.hbm, 292, rfl⟩
abbrev main_call0_call1_v20 : Ref sig .tc := ⟨.hbm, 293, rfl⟩
abbrev main_call0_call1_c_4 : Ref sig .tc := ⟨.hbm, 294, rfl⟩
abbrev main_call0_call1_v21 : Ref sig .tc := ⟨.hbm, 295, rfl⟩
abbrev main_call0_call1_v22 : Ref sig .tc := ⟨.hbm, 296, rfl⟩
abbrev main_call0_call1_c_5 : Ref sig .tc := ⟨.hbm, 297, rfl⟩
abbrev main_call0_call1_v23 : Ref sig .tc := ⟨.hbm, 298, rfl⟩
abbrev main_call0_call1_v24 : Ref sig .tc := ⟨.hbm, 299, rfl⟩
abbrev main_call0_call1_v25 : Ref sig .tc := ⟨.hbm, 300, rfl⟩
abbrev main_call0_call1_v26 : Ref sig .tc := ⟨.hbm, 301, rfl⟩
abbrev main_call0_call1_v27 : Ref sig .tc := ⟨.hbm, 302, rfl⟩
abbrev main_call0_call1_c_6 : Ref sig .tc := ⟨.hbm, 303, rfl⟩
abbrev main_call0_call1_v28 : Ref sig .tc := ⟨.hbm, 304, rfl⟩
abbrev main_call0_call1_v29 : Ref sig .tc := ⟨.hbm, 305, rfl⟩
abbrev main_call0_call1_c_7 : Ref sig .tc := ⟨.hbm, 306, rfl⟩
abbrev main_call0_call1_v30 : Ref sig .tc := ⟨.hbm, 307, rfl⟩
abbrev main_call0_call1_v31 : Ref sig .tc := ⟨.hbm, 308, rfl⟩
abbrev main_call0_call1_v32 : Ref sig .tc := ⟨.hbm, 309, rfl⟩
abbrev main_call0_call1_v33 : Ref sig .tc := ⟨.hbm, 310, rfl⟩
abbrev main_call0_call1_v34 : Ref sig .tc := ⟨.hbm, 311, rfl⟩
abbrev main_call0_call1_v35 : Ref sig .tc := ⟨.hbm, 312, rfl⟩
abbrev main_call0_call1_v36 : Ref sig .tc := ⟨.hbm, 313, rfl⟩
abbrev main_call0_call1_v37 : Ref sig .tc := ⟨.hbm, 314, rfl⟩
abbrev main_call0_call1_c_8 : Ref sig .tc := ⟨.hbm, 315, rfl⟩
abbrev main_call0_call1_v38 : Ref sig .tc := ⟨.hbm, 316, rfl⟩
abbrev main_call0_call1_v39 : Ref sig .tc := ⟨.hbm, 317, rfl⟩
abbrev main_call0_call1_v40 : Ref sig .tc := ⟨.hbm, 318, rfl⟩
abbrev main_call0_call1_c_9 : Ref sig .tc := ⟨.hbm, 319, rfl⟩
abbrev main_call0_call1_v41 : Ref sig .tc := ⟨.hbm, 320, rfl⟩
abbrev main_call0_call1_v42 : Ref sig .tc := ⟨.hbm, 321, rfl⟩
abbrev main_call0_call1_c_10 : Ref sig .tc := ⟨.hbm, 322, rfl⟩
abbrev main_call0_call1_v43 : Ref sig .tc := ⟨.hbm, 323, rfl⟩
abbrev main_call0_call1_v44 : Ref sig .tc := ⟨.hbm, 324, rfl⟩
abbrev main_call0_call1_v45 : Ref sig .tc := ⟨.hbm, 325, rfl⟩
abbrev main_call0_call1_v46 : Ref sig .tc := ⟨.hbm, 326, rfl⟩
abbrev main_call0_call1_v47 : Ref sig .tc := ⟨.hbm, 327, rfl⟩
abbrev main_call0_call1_c_11 : Ref sig .tc := ⟨.hbm, 328, rfl⟩
abbrev main_call0_call1_v48 : Ref sig .tc := ⟨.hbm, 329, rfl⟩
abbrev main_call0_call1_v49 : Ref sig .tc := ⟨.hbm, 330, rfl⟩
abbrev main_call0_call1_c_12 : Ref sig .tc := ⟨.hbm, 331, rfl⟩
abbrev main_call0_call1_v50 : Ref sig .tc := ⟨.hbm, 332, rfl⟩
abbrev main_call0_call1_v51 : Ref sig .tc := ⟨.hbm, 333, rfl⟩
abbrev main_call0_call1_v52 : Ref sig .tc := ⟨.hbm, 334, rfl⟩
abbrev main_call0_call1_v53 : Ref sig .tc := ⟨.hbm, 335, rfl⟩
abbrev main_call0_call1_v54 : Ref sig .tc := ⟨.hbm, 336, rfl⟩
abbrev main_call0_call1_c_13 : Ref sig .tc := ⟨.hbm, 337, rfl⟩
abbrev main_call0_call1_v55 : Ref sig .tc := ⟨.hbm, 338, rfl⟩
abbrev main_call0_call1_v56 : Ref sig .tc := ⟨.hbm, 339, rfl⟩
abbrev main_call0_call1_c_14 : Ref sig .tc := ⟨.hbm, 340, rfl⟩
abbrev main_call0_call1_v57 : Ref sig .tc := ⟨.hbm, 341, rfl⟩
abbrev main_call0_call1_v58 : Ref sig .tc := ⟨.hbm, 342, rfl⟩
abbrev main_call0_call1_v59 : Ref sig .tc := ⟨.hbm, 343, rfl⟩
abbrev main_call0_call1_v60 : Ref sig .tc := ⟨.hbm, 344, rfl⟩
abbrev main_call0_call1_v61 : Ref sig .tc := ⟨.hbm, 345, rfl⟩
abbrev main_call0_call1_c_15 : Ref sig .tc := ⟨.hbm, 346, rfl⟩
abbrev main_call0_call1_v62 : Ref sig .tc := ⟨.hbm, 347, rfl⟩
abbrev main_call0_call1_v63 : Ref sig .tc := ⟨.hbm, 348, rfl⟩
abbrev main_call0_call1_c_16 : Ref sig .tc := ⟨.hbm, 349, rfl⟩
abbrev main_call0_call1_v64 : Ref sig .tc := ⟨.hbm, 350, rfl⟩
abbrev main_call0_call1_v65 : Ref sig .tc := ⟨.hbm, 351, rfl⟩
abbrev main_call0_call1_v66 : Ref sig .tc := ⟨.hbm, 352, rfl⟩
abbrev main_call0_call1_v67 : Ref sig .tc := ⟨.hbm, 353, rfl⟩
abbrev main_call0_call1_v68 : Ref sig .tc := ⟨.hbm, 354, rfl⟩
abbrev main_call0_call1_v69 : Ref sig .tc := ⟨.hbm, 355, rfl⟩
abbrev main_call0_call1_v70 : Ref sig .tc := ⟨.hbm, 356, rfl⟩
abbrev main_call0_call1_v71 : Ref sig .tc := ⟨.hbm, 357, rfl⟩
abbrev main_call0_call1_c_17 : Ref sig .tc := ⟨.hbm, 358, rfl⟩
abbrev main_call0_call1_v72 : Ref sig .tc := ⟨.hbm, 359, rfl⟩
abbrev main_call0_call1_v73 : Ref sig .tc := ⟨.hbm, 360, rfl⟩
abbrev main_call0_call1_v74 : Ref sig .tc := ⟨.hbm, 361, rfl⟩
abbrev main_call0_call1_c_18 : Ref sig .tc := ⟨.hbm, 362, rfl⟩
abbrev main_call0_call1_v75 : Ref sig .tc := ⟨.hbm, 363, rfl⟩
abbrev main_call0_call1_v76 : Ref sig .tc := ⟨.hbm, 364, rfl⟩
abbrev main_call0_call1_c_19 : Ref sig .tc := ⟨.hbm, 365, rfl⟩
abbrev main_call0_call1_v77 : Ref sig .tc := ⟨.hbm, 366, rfl⟩
abbrev main_call0_call1_v78 : Ref sig .tc := ⟨.hbm, 367, rfl⟩
abbrev main_call0_call1_v79 : Ref sig .tc := ⟨.hbm, 368, rfl⟩
abbrev main_call0_call1_v80 : Ref sig .tc := ⟨.hbm, 369, rfl⟩
abbrev main_call0_call1_v81 : Ref sig .tc := ⟨.hbm, 370, rfl⟩
abbrev main_call0_call1_c_20 : Ref sig .tc := ⟨.hbm, 371, rfl⟩
abbrev main_call0_call1_v82 : Ref sig .tc := ⟨.hbm, 372, rfl⟩
abbrev main_call0_call1_v83 : Ref sig .tc := ⟨.hbm, 373, rfl⟩
abbrev main_call0_call1_c_21 : Ref sig .tc := ⟨.hbm, 374, rfl⟩
abbrev main_call0_call1_v84 : Ref sig .tc := ⟨.hbm, 375, rfl⟩
abbrev main_call0_call1_v85 : Ref sig .tc := ⟨.hbm, 376, rfl⟩
abbrev main_call0_call1_v86 : Ref sig .tc := ⟨.hbm, 377, rfl⟩
abbrev main_call0_call1_v87 : Ref sig .tc := ⟨.hbm, 378, rfl⟩
abbrev main_call0_call1_v88 : Ref sig .tc := ⟨.hbm, 379, rfl⟩
abbrev main_call0_call1_c_22 : Ref sig .tc := ⟨.hbm, 380, rfl⟩
abbrev main_call0_call1_v89 : Ref sig .tc := ⟨.hbm, 381, rfl⟩
abbrev main_call0_call1_v90 : Ref sig .tc := ⟨.hbm, 382, rfl⟩
abbrev main_call0_call1_c_23 : Ref sig .tc := ⟨.hbm, 383, rfl⟩
abbrev main_call0_call1_v91 : Ref sig .tc := ⟨.hbm, 384, rfl⟩
abbrev main_call0_call1_v92 : Ref sig .tc := ⟨.hbm, 385, rfl⟩
abbrev main_call0_call1_v93 : Ref sig .tc := ⟨.hbm, 386, rfl⟩
abbrev main_call0_call1_v94 : Ref sig .tc := ⟨.hbm, 387, rfl⟩
abbrev main_call0_call1_v95 : Ref sig .tc := ⟨.hbm, 388, rfl⟩
abbrev main_call0_call1_c_24 : Ref sig .tc := ⟨.hbm, 389, rfl⟩
abbrev main_call0_call1_v96 : Ref sig .tc := ⟨.hbm, 390, rfl⟩
abbrev main_call0_call1_v97 : Ref sig .tc := ⟨.hbm, 391, rfl⟩
abbrev main_call0_call1_c_25 : Ref sig .tc := ⟨.hbm, 392, rfl⟩
abbrev main_call0_call1_v98 : Ref sig .tc := ⟨.hbm, 393, rfl⟩
abbrev main_call0_call1_v99 : Ref sig .tc := ⟨.hbm, 394, rfl⟩
abbrev main_call0_call1_v100 : Ref sig .tc := ⟨.hbm, 395, rfl⟩
abbrev main_call0_call1_v101 : Ref sig .tc := ⟨.hbm, 396, rfl⟩
abbrev main_call0_call1_v102 : Ref sig .tc := ⟨.hbm, 397, rfl⟩
abbrev main_call0_call1_v103 : Ref sig .tc := ⟨.hbm, 398, rfl⟩
abbrev main_call0_call1_v104 : Ref sig .tc := ⟨.hbm, 399, rfl⟩
abbrev main_call0_call1_v105 : Ref sig .tc := ⟨.hbm, 400, rfl⟩
abbrev main_call0_call1_c_26 : Ref sig .tc := ⟨.hbm, 401, rfl⟩
abbrev main_call0_call1_v106 : Ref sig .tc := ⟨.hbm, 402, rfl⟩
abbrev main_call0_call1_v107 : Ref sig .tc := ⟨.hbm, 403, rfl⟩
abbrev main_call0_call1_v108 : Ref sig .tc := ⟨.hbm, 404, rfl⟩
abbrev main_call0_call1_c_27 : Ref sig .tc := ⟨.hbm, 405, rfl⟩
abbrev main_call0_call1_v109 : Ref sig .tc := ⟨.hbm, 406, rfl⟩
abbrev main_call0_call1_v110 : Ref sig .tc := ⟨.hbm, 407, rfl⟩
abbrev main_call0_call1_c_28 : Ref sig .tc := ⟨.hbm, 408, rfl⟩
abbrev main_call0_call1_v111 : Ref sig .tc := ⟨.hbm, 409, rfl⟩
abbrev main_call0_call1_v112 : Ref sig .tc := ⟨.hbm, 410, rfl⟩
abbrev main_call0_call1_v113 : Ref sig .tc := ⟨.hbm, 411, rfl⟩
abbrev main_call0_call1_v114 : Ref sig .tc := ⟨.hbm, 412, rfl⟩
abbrev main_call0_call1_v115 : Ref sig .tc := ⟨.hbm, 413, rfl⟩
abbrev main_call0_call1_c_29 : Ref sig .tc := ⟨.hbm, 414, rfl⟩
abbrev main_call0_call1_v116 : Ref sig .tc := ⟨.hbm, 415, rfl⟩
abbrev main_call0_call1_v117 : Ref sig .tc := ⟨.hbm, 416, rfl⟩
abbrev main_call0_call1_c_30 : Ref sig .tc := ⟨.hbm, 417, rfl⟩
abbrev main_call0_call1_v118 : Ref sig .tc := ⟨.hbm, 418, rfl⟩
abbrev main_call0_call1_v119 : Ref sig .tc := ⟨.hbm, 419, rfl⟩
abbrev main_call0_call1_v120 : Ref sig .tc := ⟨.hbm, 420, rfl⟩
abbrev main_call0_call1_v121 : Ref sig .tc := ⟨.hbm, 421, rfl⟩
abbrev main_call0_call1_v122 : Ref sig .tc := ⟨.hbm, 422, rfl⟩
abbrev main_call0_call1_c_31 : Ref sig .tc := ⟨.hbm, 423, rfl⟩
abbrev main_call0_call1_v123 : Ref sig .tc := ⟨.hbm, 424, rfl⟩
abbrev main_call0_call1_v124 : Ref sig .tc := ⟨.hbm, 425, rfl⟩
abbrev main_call0_call1_c_32 : Ref sig .tc := ⟨.hbm, 426, rfl⟩
abbrev main_call0_call1_v125 : Ref sig .tc := ⟨.hbm, 427, rfl⟩
abbrev main_call0_call1_v126 : Ref sig .tc := ⟨.hbm, 428, rfl⟩
abbrev main_call0_call1_v127 : Ref sig .tc := ⟨.hbm, 429, rfl⟩
abbrev main_call0_call1_v128 : Ref sig .tc := ⟨.hbm, 430, rfl⟩
abbrev main_call0_call1_v129 : Ref sig .tc := ⟨.hbm, 431, rfl⟩
abbrev main_call0_call1_c_33 : Ref sig .tc := ⟨.hbm, 432, rfl⟩
abbrev main_call0_call1_v130 : Ref sig .tc := ⟨.hbm, 433, rfl⟩
abbrev main_call0_call1_v131 : Ref sig .tc := ⟨.hbm, 434, rfl⟩
abbrev main_call0_call1_c_34 : Ref sig .tc := ⟨.hbm, 435, rfl⟩
abbrev main_call0_call1_v132 : Ref sig .tc := ⟨.hbm, 436, rfl⟩
abbrev main_call0_call1_v133 : Ref sig .tc := ⟨.hbm, 437, rfl⟩
abbrev main_call0_call1_v134 : Ref sig .tc := ⟨.hbm, 438, rfl⟩
abbrev main_call0_call1_v135 : Ref sig .tc := ⟨.hbm, 439, rfl⟩
abbrev main_call0_call1_v136 : Ref sig .tc := ⟨.hbm, 440, rfl⟩
abbrev main_call0_call1_v137 : Ref sig .tc := ⟨.hbm, 441, rfl⟩
abbrev main_call0_call1_v138 : Ref sig .tc := ⟨.hbm, 442, rfl⟩
abbrev main_call0_call1_v139 : Ref sig .tc := ⟨.hbm, 443, rfl⟩
abbrev main_call0_call1_c_35 : Ref sig .tc := ⟨.hbm, 444, rfl⟩
abbrev main_call0_call1_v140 : Ref sig .tc := ⟨.hbm, 445, rfl⟩
abbrev main_call0_call1_v141 : Ref sig .tc := ⟨.hbm, 446, rfl⟩
abbrev main_call0_call1_v142 : Ref sig .tc := ⟨.hbm, 447, rfl⟩
abbrev main_call0_call1_c_36 : Ref sig .tc := ⟨.hbm, 448, rfl⟩
abbrev main_call0_call1_v143 : Ref sig .tc := ⟨.hbm, 449, rfl⟩
abbrev main_call0_call1_v144 : Ref sig .tc := ⟨.hbm, 450, rfl⟩
abbrev main_call0_call1_c_37 : Ref sig .tc := ⟨.hbm, 451, rfl⟩
abbrev main_call0_call1_v145 : Ref sig .tc := ⟨.hbm, 452, rfl⟩
abbrev main_call0_call1_v146 : Ref sig .tc := ⟨.hbm, 453, rfl⟩
abbrev main_call0_call1_v147 : Ref sig .tc := ⟨.hbm, 454, rfl⟩
abbrev main_call0_call1_v148 : Ref sig .tc := ⟨.hbm, 455, rfl⟩
abbrev main_call0_call1_v149 : Ref sig .tc := ⟨.hbm, 456, rfl⟩
abbrev main_call0_call1_c_38 : Ref sig .tc := ⟨.hbm, 457, rfl⟩
abbrev main_call0_call1_v150 : Ref sig .tc := ⟨.hbm, 458, rfl⟩
abbrev main_call0_call1_v151 : Ref sig .tc := ⟨.hbm, 459, rfl⟩
abbrev main_call0_call1_c_39 : Ref sig .tc := ⟨.hbm, 460, rfl⟩
abbrev main_call0_call1_v152 : Ref sig .tc := ⟨.hbm, 461, rfl⟩
abbrev main_call0_call1_v153 : Ref sig .tc := ⟨.hbm, 462, rfl⟩
abbrev main_call0_call1_v154 : Ref sig .tc := ⟨.hbm, 463, rfl⟩
abbrev main_call0_call1_v155 : Ref sig .tc := ⟨.hbm, 464, rfl⟩
abbrev main_call0_call1_v156 : Ref sig .tc := ⟨.hbm, 465, rfl⟩
abbrev main_call0_call1_c_40 : Ref sig .tc := ⟨.hbm, 466, rfl⟩
abbrev main_call0_call1_v157 : Ref sig .tc := ⟨.hbm, 467, rfl⟩
abbrev main_call0_call1_v158 : Ref sig .tc := ⟨.hbm, 468, rfl⟩
abbrev main_call0_call1_c_41 : Ref sig .tc := ⟨.hbm, 469, rfl⟩
abbrev main_call0_call1_v159 : Ref sig .tc := ⟨.hbm, 470, rfl⟩
abbrev main_call0_call1_v160 : Ref sig .tc := ⟨.hbm, 471, rfl⟩
abbrev main_call0_call1_v161 : Ref sig .tc := ⟨.hbm, 472, rfl⟩
abbrev main_call0_call1_v162 : Ref sig .tc := ⟨.hbm, 473, rfl⟩
abbrev main_call0_call1_v163 : Ref sig .tc := ⟨.hbm, 474, rfl⟩
abbrev main_call0_call1_c_42 : Ref sig .tc := ⟨.hbm, 475, rfl⟩
abbrev main_call0_call1_v164 : Ref sig .tc := ⟨.hbm, 476, rfl⟩
abbrev main_call0_call1_v165 : Ref sig .tc := ⟨.hbm, 477, rfl⟩
abbrev main_call0_call1_c_43 : Ref sig .tc := ⟨.hbm, 478, rfl⟩
abbrev main_call0_call1_v166 : Ref sig .tc := ⟨.hbm, 479, rfl⟩
abbrev main_call0_call1_v167 : Ref sig .tc := ⟨.hbm, 480, rfl⟩
abbrev main_call0_call1_v168 : Ref sig .tc := ⟨.hbm, 481, rfl⟩
abbrev main_call0_call1_v169 : Ref sig .tc := ⟨.hbm, 482, rfl⟩
abbrev main_call0_call1_v170 : Ref sig .tc := ⟨.hbm, 483, rfl⟩
abbrev main_call0_v16_0 : Ref sig .tc := ⟨.hbm, 484, rfl⟩
abbrev main_call0_call1_v172 : Ref sig .tc := ⟨.hbm, 485, rfl⟩
abbrev main_call0_call1_v173 : Ref sig .tc := ⟨.hbm, 486, rfl⟩
abbrev main_call0_call1_c_44 : Ref sig .tc := ⟨.hbm, 487, rfl⟩
abbrev main_call0_call1_v174 : Ref sig .tc := ⟨.hbm, 488, rfl⟩
abbrev main_call0_v16_1 : Ref sig .tc := ⟨.hbm, 489, rfl⟩
abbrev main_call0_v17 : Ref sig .tc := ⟨.hbm, 490, rfl⟩
abbrev main_call0_v18_0 : Ref sig .tc := ⟨.hbm, 491, rfl⟩
abbrev main_v8 : Ref sig .tc := ⟨.hbm, 492, rfl⟩
abbrev main_v10 : Ref sig .tc := ⟨.hbm, 493, rfl⟩
abbrev main_v9 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![4, 8, 1], ![false, false, false]⟩

abbrev pre0 : Pipeline.Prefetch sig := ⟨1, ![main_v9.idx], fun | 0 => main_v9.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (k0_off1_inb : ∀ i : grid0.Coords, ∀ a, (k0_off1 i) a + S1.size a ≤ S8.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 0 (Rect.unit (s := S8) ![v0.toNat] S1.size (k0_off1_inb i)) numel1_S1
  let c0_i32 : BitVec 32 := 0#32
  let c0_i32_0 : BitVec 32 := 0#32
  ![arg0.toNat, v1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x48x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x48x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]
-- ==== ReferenceIdeal.lean ====
abbrev S4x384x224x224 : Shape := ⟨4, ![4, 384, 224, 224]⟩
abbrev S1 : Shape := ⟨1, ![1]⟩
abbrev S_ : Shape := ⟨0, ![]⟩
abbrev S2 : Shape := ⟨1, ![2]⟩
abbrev S7 : Shape := ⟨1, ![7]⟩
abbrev S2x1 : Shape := ⟨2, ![2, 1]⟩
abbrev S2x2 : Shape := ⟨2, ![2, 2]⟩
abbrev S1x2 : Shape := ⟨2, ![1, 2]⟩
abbrev S8 : Shape := ⟨1, ![8]⟩
abbrev S4x8x48x224x224 : Shape := ⟨5, ![4, 8, 48, 224, 224]⟩
abbrev S8x1 : Shape := ⟨2, ![8, 1]⟩

abbrev nBuf : Space → Nat
  | .hbm => 505
  | .vmem => 0
  | .smem => 0
  | _ => 0

abbrev hbmTy0_0 (i : Nat) : BufTy := match i % 128 with
  | 0 => ⟨S4x384x224x224, .f32⟩
  | 1 => ⟨S1, .i32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S7, .i32⟩
  | 13 => ⟨S1, .i32⟩
  | 14 => ⟨S_, .i32⟩
  | 15 => ⟨S1, .i32⟩
  | 16 => ⟨S_, .i32⟩
  | 17 => ⟨S2, .i64⟩
  | 18 => ⟨S_, .i64⟩
  | 19 => ⟨S2, .i64⟩
  | 20 => ⟨S2, .i64⟩
  | 21 => ⟨S_, .i64⟩
  | 22 => ⟨S2, .i64⟩
  | 23 => ⟨S2, .i64⟩
  | 24 => ⟨S2, .i32⟩
  | 25 => ⟨S2, .i32⟩
  | 26 => ⟨S_, .i32⟩
  | 27 => ⟨S_, .i32⟩
  | 28 => ⟨S_, .i32⟩
  | 29 => ⟨S2, .i32⟩
  | 30 => ⟨S2, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S2, .i32⟩
  | _ => ⟨S4x384x224x224, .f32⟩

abbrev hbmTy0_1 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S2x1, .i32⟩
  | 121 => ⟨S2x1, .i32⟩
  | 122 => ⟨S2x2, .i32⟩
  | 123 => ⟨S1x2, .i32⟩
  | 124 => ⟨S2, .i32⟩
  | 125 => ⟨S1x2, .i32⟩
  | 126 => ⟨S2, .i32⟩
  | 127 => ⟨S1, .i32⟩
  | _ => ⟨S4x384x224x224, .f32⟩

abbrev hbmTy0_2 (i : Nat) : BufTy := match i % 128 with
  | 0 => ⟨S_, .i32⟩
  | 1 => ⟨S1, .i32⟩
  | 2 => ⟨S_, .i32⟩
  | 3 => ⟨S7, .i64⟩
  | 4 => ⟨S_, .i64⟩
  | 5 => ⟨S7, .i64⟩
  | 6 => ⟨S7, .i64⟩
  | 7 => ⟨S_, .i64⟩
  | 8 => ⟨S7, .i64⟩
  | 9 => ⟨S7, .i64⟩
  | 10 => ⟨S7, .i32⟩
  | 11 => ⟨S7, .i32⟩
  | 12 => ⟨S_, .i32⟩
  | 13 => ⟨S_, .i32⟩
  | 14 => ⟨S_, .i32⟩
  | 15 => ⟨S7, .i32⟩
  | 16 => ⟨S7, .i32⟩
  | 17 => ⟨S7, .i32⟩
  | 18 => ⟨S7, .i32⟩
  | 19 => ⟨S7, .i32⟩
  | 20 => ⟨S_, .i32⟩
  | 21 => ⟨S7, .i32⟩
  | 22 => ⟨S7, .i32⟩
  | 23 => ⟨S_, .i32⟩
  | 24 => ⟨S7, .i32⟩
  | 25 => ⟨S7, .i32⟩
  | 26 => ⟨S7, .i32⟩
  | 27 => ⟨S7, .i32⟩
  | 28 => ⟨S7, .i32⟩
  | 29 => ⟨S_, .i32⟩
  | 30 => ⟨S7, .i32⟩
  | 31 => ⟨S7, .i32⟩
  | 32 => ⟨S_, .i32⟩
  | 33 => ⟨S7, .i32⟩
  | 34 => ⟨S7, .i32⟩
  | 35 => ⟨S7, .i32⟩
  | 36 => ⟨S7, .i32⟩
  | 37 => ⟨S7, .i32⟩
  | 38 => ⟨S_, .i32⟩
  | 39 => ⟨S7, .i32⟩
  | 40 => ⟨S7, .i32⟩
  | 41 => ⟨S_, .i32⟩
  | 42 => ⟨S7, .i32⟩
  | 43 => ⟨S7, .i32⟩
  | 44 => ⟨S7, .i32⟩
  | 45 => ⟨S7, .i32⟩
  | 46 => ⟨S7, .i32⟩
  | 47 => ⟨S_, .i32⟩
  | 48 => ⟨S7, .i32⟩
  | 49 => ⟨S7, .i32⟩
  | 50 => ⟨S_, .i32⟩
  | 51 => ⟨S7, .i32⟩
  | 52 => ⟨S7, .i32⟩
  | 53 => ⟨S7, .i32⟩
  | 54 => ⟨S7, .i32⟩
  | 55 => ⟨S7, .i32⟩
  | 56 => ⟨S7, .i32⟩
  | 57 => ⟨S7, .i32⟩
  | 58 => ⟨S7, .i32⟩
  | 59 => ⟨S_, .i32⟩
  | 60 => ⟨S7, .i32⟩
  | 61 => ⟨S7, .i32⟩
  | 62 => ⟨S7, .i32⟩
  | 63 => ⟨S_, .i32⟩
  | 64 => ⟨S7, .i32⟩
  | 65 => ⟨S7, .i32⟩
  | 66 => ⟨S_, .i32⟩
  | 67 => ⟨S7, .i32⟩
  | 68 => ⟨S7, .i32⟩
  | 69 => ⟨S7, .i32⟩
  | 70 => ⟨S7, .i32⟩
  | 71 => ⟨S7, .i32⟩
  | 72 => ⟨S_, .i32⟩
  | 73 => ⟨S7, .i32⟩
  | 74 => ⟨S7, .i32⟩
  | 75 => ⟨S_, .i32⟩
  | 76 => ⟨S7, .i32⟩
  | 77 => ⟨S7, .i32⟩
  | 78 => ⟨S7, .i32⟩
  | 79 => ⟨S7, .i32⟩
  | 80 => ⟨S7, .i32⟩
  | 81 => ⟨S_, .i32⟩
  | 82 => ⟨S7, .i32⟩
  | 83 => ⟨S7, .i32⟩
  | 84 => ⟨S_, .i32⟩
  | 85 => ⟨S7, .i32⟩
  | 86 => ⟨S7, .i32⟩
  | 87 => ⟨S7, .i32⟩
  | 88 => ⟨S7, .i32⟩
  | 89 => ⟨S7, .i32⟩
  | 90 => ⟨S_, .i32⟩
  | 91 => ⟨S7, .i32⟩
  | 92 => ⟨S7, .i32⟩
  | 93 => ⟨S_, .i32⟩
  | 94 => ⟨S7, .i32⟩
  | 95 => ⟨S7, .i32⟩
  | 96 => ⟨S7, .i32⟩
  | 97 => ⟨S7, .i32⟩
  | 98 => ⟨S7, .i32⟩
  | 99 => ⟨S7, .i32⟩
  | 100 => ⟨S7, .i32⟩
  | 101 => ⟨S7, .i32⟩
  | 102 => ⟨S_, .i32⟩
  | 103 => ⟨S7, .i32⟩
  | 104 => ⟨S7, .i32⟩
  | 105 => ⟨S7, .i32⟩
  | 106 => ⟨S_, .i32⟩
  | 107 => ⟨S7, .i32⟩
  | 108 => ⟨S7, .i32⟩
  | 109 => ⟨S_, .i32⟩
  | 110 => ⟨S7, .i32⟩
  | 111 => ⟨S7, .i32⟩
  | 112 => ⟨S7, .i32⟩
  | 113 => ⟨S7, .i32⟩
  | 114 => ⟨S7, .i32⟩
  | 115 => ⟨S_, .i32⟩
  | 116 => ⟨S7, .i32⟩
  | 117 => ⟨S7, .i32⟩
  | 118 => ⟨S_, .i32⟩
  | 119 => ⟨S7, .i32⟩
  | 120 => ⟨S7, .i32⟩
  | 121 => ⟨S7, .i32⟩
  | 122 => ⟨S7, .i32⟩
  | 123 => ⟨S7, .i32⟩
  | 124 => ⟨S_, .i32⟩
  | 125 => ⟨S7, .i32⟩
  | 126 => ⟨S7, .i32⟩
  | 127 => ⟨S_, .i32⟩
  | _ => ⟨S4x384x224x224, .f32⟩

abbrev hbmTy0_3 (i : Nat) : BufTy := match i % 128 with
  | 0 => ⟨S7, .i32⟩
  | 1 => ⟨S7, .i32⟩
  | 2 => ⟨S7, .i32⟩
  | 3 => ⟨S7, .i32⟩
  | 4 => ⟨S7, .i32⟩
  | 5 => ⟨S_, .i32⟩
  | 6 => ⟨S7, .i32⟩
  | 7 => ⟨S7, .i32⟩
  | 8 => ⟨S_, .i32⟩
  | 9 => ⟨S7, .i32⟩
  | 10 => ⟨S7, .i32⟩
  | 11 => ⟨S7, .i32⟩
  | 12 => ⟨S7, .i32⟩
  | 13 => ⟨S7, .i32⟩
  | 14 => ⟨S7, .i32⟩
  | 15 => ⟨S7, .i32⟩
  | 16 => ⟨S7, .i32⟩
  | 17 => ⟨S_, .i32⟩
  | 18 => ⟨S7, .i32⟩
  | 19 => ⟨S7, .i32⟩
  | 20 => ⟨S7, .i32⟩
  | 21 => ⟨S_, .i32⟩
  | 22 => ⟨S7, .i32⟩
  | 23 => ⟨S7, .i32⟩
  | 24 => ⟨S_, .i32⟩
  | 25 => ⟨S7, .i32⟩
  | 26 => ⟨S7, .i32⟩
  | 27 => ⟨S7, .i32⟩
  | 28 => ⟨S7, .i32⟩
  | 29 => ⟨S7, .i32⟩
  | 30 => ⟨S_, .i32⟩
  | 31 => ⟨S7, .i32⟩
  | 32 => ⟨S7, .i32⟩
  | 33 => ⟨S_, .i32⟩
  | 34 => ⟨S7, .i32⟩
  | 35 => ⟨S7, .i32⟩
  | 36 => ⟨S7, .i32⟩
  | 37 => ⟨S7, .i32⟩
  | 38 => ⟨S7, .i32⟩
  | 39 => ⟨S_, .i32⟩
  | 40 => ⟨S7, .i32⟩
  | 41 => ⟨S7, .i32⟩
  | 42 => ⟨S_, .i32⟩
  | 43 => ⟨S7, .i32⟩
  | 44 => ⟨S7, .i32⟩
  | 45 => ⟨S7, .i32⟩
  | 46 => ⟨S7, .i32⟩
  | 47 => ⟨S7, .i32⟩
  | 48 => ⟨S_, .i32⟩
  | 49 => ⟨S7, .i32⟩
  | 50 => ⟨S7, .i32⟩
  | 51 => ⟨S_, .i32⟩
  | 52 => ⟨S7, .i32⟩
  | 53 => ⟨S7, .i32⟩
  | 54 => ⟨S7, .i32⟩
  | 55 => ⟨S7, .i32⟩
  | 56 => ⟨S7, .i32⟩
  | 57 => ⟨S7, .i32⟩
  | 58 => ⟨S7, .i32⟩
  | 59 => ⟨S7, .i32⟩
  | 60 => ⟨S_, .i32⟩
  | 61 => ⟨S7, .i32⟩
  | 62 => ⟨S7, .i32⟩
  | 63 => ⟨S7, .i32⟩
  | 64 => ⟨S_, .i32⟩
  | 65 => ⟨S7, .i32⟩
  | 66 => ⟨S7, .i32⟩
  | 67 => ⟨S_, .i32⟩
  | 68 => ⟨S7, .i32⟩
  | 69 => ⟨S7, .i32⟩
  | 70 => ⟨S7, .i32⟩
  | 71 => ⟨S7, .i32⟩
  | 72 => ⟨S7, .i32⟩
  | 73 => ⟨S_, .i32⟩
  | 74 => ⟨S7, .i32⟩
  | 75 => ⟨S7, .i32⟩
  | 76 => ⟨S_, .i32⟩
  | 77 => ⟨S7, .i32⟩
  | 78 => ⟨S7, .i32⟩
  | 79 => ⟨S7, .i32⟩
  | 80 => ⟨S7, .i32⟩
  | 81 => ⟨S7, .i32⟩
  | 82 => ⟨S_, .i32⟩
  | 83 => ⟨S7, .i32⟩
  | 84 => ⟨S7, .i32⟩
  | 85 => ⟨S_, .i32⟩
  | 86 => ⟨S7, .i32⟩
  | 87 => ⟨S7, .i32⟩
  | 88 => ⟨S7, .i32⟩
  | 89 => ⟨S7, .i32⟩
  | 90 => ⟨S7, .i32⟩
  | 91 => ⟨S_, .i32⟩
  | 92 => ⟨S7, .i32⟩
  | 93 => ⟨S7, .i32⟩
  | 94 => ⟨S_, .i32⟩
  | 95 => ⟨S7, .i32⟩
  | 96 => ⟨S7, .i32⟩
  | 97 => ⟨S7, .i32⟩
  | 98 => ⟨S7, .i32⟩
  | 99 => ⟨S7, .i32⟩
  | 100 => ⟨S7, .i32⟩
  | 101 => ⟨S7, .i32⟩
  | 102 => ⟨S7, .i32⟩
  | 103 => ⟨S_, .i32⟩
  | 104 => ⟨S7, .i32⟩
  | 105 => ⟨S7, .i32⟩
  | 106 => ⟨S7, .i32⟩
  | 107 => ⟨S7, .i32⟩
  | 108 => ⟨S7, .i32⟩
  | 109 => ⟨S8, .i32⟩
  | 110 => ⟨S4x8x48x224x224, .f32⟩
  | 111 => ⟨S_, .i32⟩
  | 112 => ⟨S8, .i32⟩
  | 113 => ⟨S8, .i1⟩
  | 114 => ⟨S_, .i32⟩
  | 115 => ⟨S8, .i32⟩
  | 116 => ⟨S8, .i32⟩
  | 117 => ⟨S8, .i32⟩
  | 118 => ⟨S8x1, .i32⟩
  | 119 => ⟨S4x8x48x224x224, .f32⟩
  | 120 => ⟨S4x384x224x224, .f32⟩
  | _ => ⟨S4x384x224x224, .f32⟩

abbrev hbmTy (i : Nat) : BufTy := match i / 128 with
  | 0 => hbmTy0_0 i
  | 1 => hbmTy0_1 i
  | 2 => hbmTy0_2 i
  | 3 => hbmTy0_3 i
  | _ => ⟨S4x384x224x224, .f32⟩

abbrev bufTy : (tb : Table) → Fin (tcTables nBuf tb) → BufTy
  | .hbm, ⟨i, _⟩ => hbmTy i
  | _, _ => ⟨S4x384x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_c : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_c_0 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_call0_v0 : Ref sig .tc := ⟨.hbm, 26, rfl⟩
abbrev main_call0_call0_call0_c : Ref sig .tc := ⟨.hbm, 27, rfl⟩
abbrev main_call0_call0_call0_v1 : Ref sig .tc := ⟨.hbm, 28, rfl⟩
abbrev main_call0_call0_call0_v2 : Ref sig .tc := ⟨.hbm, 29, rfl⟩
abbrev main_call0_call0_call0_v3 : Ref sig .tc := ⟨.hbm, 30, rfl⟩
abbrev main_call0_call0_call0_v4 : Ref sig .tc := ⟨.hbm, 31, rfl⟩
abbrev main_call0_call0_call0_v5 : Ref sig .tc := ⟨.hbm, 32, rfl⟩
abbrev main_call0_call0_call0_v6 : Ref sig .tc := ⟨.hbm, 33, rfl⟩
abbrev main_call0_call0_call0_c_0 : Ref sig .tc := ⟨.hbm, 34, rfl⟩
abbrev main_call0_call0_call0_v7 : Ref sig .tc := ⟨.hbm, 35, rfl⟩
abbrev main_call0_call0_call0_v8 : Ref sig .tc := ⟨.hbm, 36, rfl⟩
abbrev main_call0_call0_call0_c_1 : Ref sig .tc := ⟨.hbm, 37, rfl⟩
abbrev main_call0_call0_call0_v9 : Ref sig .tc := ⟨.hbm, 38, rfl⟩
abbrev main_call0_call0_call0_v10 : Ref sig .tc := ⟨.hbm, 39, rfl⟩
abbrev main_call0_call0_call0_v11 : Ref sig .tc := ⟨.hbm, 40, rfl⟩
abbrev main_call0_call0_call0_v12 : Ref sig .tc := ⟨.hbm, 41, rfl⟩
abbrev main_call0_call0_call0_v13 : Ref sig .tc := ⟨.hbm, 42, rfl⟩
abbrev main_call0_call0_call0_c_2 : Ref sig .tc := ⟨.hbm, 43, rfl⟩
abbrev main_call0_call0_call0_v14 : Ref sig .tc := ⟨.hbm, 44, rfl⟩
abbrev main_call0_call0_call0_v15 : Ref sig .tc := ⟨.hbm, 45, rfl⟩
abbrev main_call0_call0_call0_c_3 : Ref sig .tc := ⟨.hbm, 46, rfl⟩
abbrev main_call0_call0_call0_v16 : Ref sig .tc := ⟨.hbm, 47, rfl⟩
abbrev main_call0_call0_call0_v17 : Ref sig .tc := ⟨.hbm, 48, rfl⟩
abbrev main_call0_call0_call0_v18 : Ref sig .tc := ⟨.hbm, 49, rfl⟩
abbrev main_call0_call0_call0_v19 : Ref sig .tc := ⟨.hbm, 50, rfl⟩
abbrev main_call0_call0_call0_v20 : Ref sig .tc := ⟨.hbm, 51, rfl⟩
abbrev main_call0_call0_call0_c_4 : Ref sig .tc := ⟨.hbm, 52, rfl⟩
abbrev main_call0_call0_call0_v21 : Ref sig .tc := ⟨.hbm, 53, rfl⟩
abbrev main_call0_call0_call0_v22 : Ref sig .tc := ⟨.hbm, 54, rfl⟩
abbrev main_call0_call0_call0_c_5 : Ref sig .tc := ⟨.hbm, 55, rfl⟩
abbrev main_call0_call0_call0_v23 : Ref sig .tc := ⟨.hbm, 56, rfl⟩
abbrev main_call0_call0_call0_v24 : Ref sig .tc := ⟨.hbm, 57, rfl⟩
abbrev main_call0_call0_call0_v25 : Ref sig .tc := ⟨.hbm, 58, rfl⟩
abbrev main_call0_call0_call0_v26 : Ref sig .tc := ⟨.hbm, 59, rfl⟩
abbrev main_call0_call0_call0_v27 : Ref sig .tc := ⟨.hbm, 60, rfl⟩
abbrev main_call0_call0_call0_c_6 : Ref sig .tc := ⟨.hbm, 61, rfl⟩
abbrev main_call0_call0_call0_v28 : Ref sig .tc := ⟨.hbm, 62, rfl⟩
abbrev main_call0_call0_call0_v29 : Ref sig .tc := ⟨.hbm, 63, rfl⟩
abbrev main_call0_call0_call0_c_7 : Ref sig .tc := ⟨.hbm, 64, rfl⟩
abbrev main_call0_call0_call0_v30 : Ref sig .tc := ⟨.hbm, 65, rfl⟩
abbrev main_call0_call0_call0_v31 : Ref sig .tc := ⟨.hbm, 66, rfl⟩
abbrev main_call0_call0_call0_v32 : Ref sig .tc := ⟨.hbm, 67, rfl⟩
abbrev main_call0_call0_call0_v33 : Ref sig .tc := ⟨.hbm, 68, rfl⟩
abbrev main_call0_call0_call0_v34 : Ref sig .tc := ⟨.hbm, 69, rfl⟩
abbrev main_call0_call0_call0_v35 : Ref sig .tc := ⟨.hbm, 70, rfl⟩
abbrev main_call0_call0_call0_v36 : Ref sig .tc := ⟨.hbm, 71, rfl⟩
abbrev main_call0_call0_call0_v37 : Ref sig .tc := ⟨.hbm, 72, rfl⟩
abbrev main_call0_call0_call0_c_8 : Ref sig .tc := ⟨.hbm, 73, rfl⟩
abbrev main_call0_call0_call0_v38 : Ref sig .tc := ⟨.hbm, 74, rfl⟩
abbrev main_call0_call0_call0_v39 : Ref sig .tc := ⟨.hbm, 75, rfl⟩
abbrev main_call0_call0_call0_v40 : Ref sig .tc := ⟨.hbm, 76, rfl⟩
abbrev main_call0_call0_call0_c_9 : Ref sig .tc := ⟨.hbm, 77, rfl⟩
abbrev main_call0_call0_call0_v41 : Ref sig .tc := ⟨.hbm, 78, rfl⟩
abbrev main_call0_call0_call0_v42 : Ref sig .tc := ⟨.hbm, 79, rfl⟩
abbrev main_call0_call0_call0_c_10 : Ref sig .tc := ⟨.hbm, 80, rfl⟩
abbrev main_call0_call0_call0_v43 : Ref sig .tc := ⟨.hbm, 81, rfl⟩
abbrev main_call0_call0_call0_v44 : Ref sig .tc := ⟨.hbm, 82, rfl⟩
abbrev main_call0_call0_call0_v45 : Ref sig .tc := ⟨.hbm, 83, rfl⟩
abbrev main_call0_call0_call0_v46 : Ref sig .tc := ⟨.hbm, 84, rfl⟩
abbrev main_call0_call0_call0_v47 : Ref sig .tc := ⟨.hbm, 85, rfl⟩
abbrev main_call0_call0_call0_c_11 : Ref sig .tc := ⟨.hbm, 86, rfl⟩
abbrev main_call0_call0_call0_v48 : Ref sig .tc := ⟨.hbm, 87, rfl⟩
abbrev main_call0_call0_call0_v49 : Ref sig .tc := ⟨.hbm, 88, rfl⟩
abbrev main_call0_call0_call0_c_12 : Ref sig .tc := ⟨.hbm, 89, rfl⟩
abbrev main_call0_call0_call0_v50 : Ref sig .tc := ⟨.hbm, 90, rfl⟩
abbrev main_call0_call0_call0_v51 : Ref sig .tc := ⟨.hbm, 91, rfl⟩
abbrev main_call0_call0_call0_v52 : Ref sig .tc := ⟨.hbm, 92, rfl⟩
abbrev main_call0_call0_call0_v53 : Ref sig .tc := ⟨.hbm, 93, rfl⟩
abbrev main_call0_call0_call0_v54 : Ref sig .tc := ⟨.hbm, 94, rfl⟩
abbrev main_call0_call0_call0_c_13 : Ref sig .tc := ⟨.hbm, 95, rfl⟩
abbrev main_call0_call0_call0_v55 : Ref sig .tc := ⟨.hbm, 96, rfl⟩
abbrev main_call0_call0_call0_v56 : Ref sig .tc := ⟨.hbm, 97, rfl⟩
abbrev main_call0_call0_call0_c_14 : Ref sig .tc := ⟨.hbm, 98, rfl⟩
abbrev main_call0_call0_call0_v57 : Ref sig .tc := ⟨.hbm, 99, rfl⟩
abbrev main_call0_call0_call0_v58 : Ref sig .tc := ⟨.hbm, 100, rfl⟩
abbrev main_call0_call0_call0_v59 : Ref sig .tc := ⟨.hbm, 101, rfl⟩
abbrev main_call0_call0_call0_v60 : Ref sig .tc := ⟨.hbm, 102, rfl⟩
abbrev main_call0_call0_call0_v61 : Ref sig .tc := ⟨.hbm, 103, rfl⟩
abbrev main_call0_call0_call0_c_15 : Ref sig .tc := ⟨.hbm, 104, rfl⟩
abbrev main_call0_call0_call0_v62 : Ref sig .tc := ⟨.hbm, 105, rfl⟩
abbrev main_call0_call0_call0_v63 : Ref sig .tc := ⟨.hbm, 106, rfl⟩
abbrev main_call0_call0_call0_c_16 : Ref sig .tc := ⟨.hbm, 107, rfl⟩
abbrev main_call0_call0_call0_v64 : Ref sig .tc := ⟨.hbm, 108, rfl⟩
abbrev main_call0_call0_call0_v65 : Ref sig .tc := ⟨.hbm, 109, rfl⟩
abbrev main_call0_call0_call0_v66 : Ref sig .tc := ⟨.hbm, 110, rfl⟩
abbrev main_call0_call0_call0_v67 : Ref sig .tc := ⟨.hbm, 111, rfl⟩
abbrev main_call0_call0_call0_v68 : Ref sig .tc := ⟨.hbm, 112, rfl⟩
abbrev main_call0_call0_call0_v69 : Ref sig .tc := ⟨.hbm, 113, rfl⟩
abbrev main_call0_call0_call0_v70 : Ref sig .tc := ⟨.hbm, 114, rfl⟩
abbrev main_call0_call0_call0_v71 : Ref sig .tc := ⟨.hbm, 115, rfl⟩
abbrev main_call0_call0_call0_c_17 : Ref sig .tc := ⟨.hbm, 116, rfl⟩
abbrev main_call0_call0_call0_v72 : Ref sig .tc := ⟨.hbm, 117, rfl⟩
abbrev main_call0_call0_call0_v73 : Ref sig .tc := ⟨.hbm, 118, rfl⟩
abbrev main_call0_call0_call0_v74 : Ref sig .tc := ⟨.hbm, 119, rfl⟩
abbrev main_call0_call0_call0_c_18 : Ref sig .tc := ⟨.hbm, 120, rfl⟩
abbrev main_call0_call0_call0_v75 : Ref sig .tc := ⟨.hbm, 121, rfl⟩
abbrev main_call0_call0_call0_v76 : Ref sig .tc := ⟨.hbm, 122, rfl⟩
abbrev main_call0_call0_call0_c_19 : Ref sig .tc := ⟨.hbm, 123, rfl⟩
abbrev main_call0_call0_call0_v77 : Ref sig .tc := ⟨.hbm, 124, rfl⟩
abbrev main_call0_call0_call0_v78 : Ref sig .tc := ⟨.hbm, 125, rfl⟩
abbrev main_call0_call0_call0_v79 : Ref sig .tc := ⟨.hbm, 126, rfl⟩
abbrev main_call0_call0_call0_v80 : Ref sig .tc := ⟨.hbm, 127, rfl⟩
abbrev main_call0_call0_call0_v81 : Ref sig .tc := ⟨.hbm, 128, rfl⟩
abbrev main_call0_call0_call0_c_20 : Ref sig .tc := ⟨.hbm, 129, rfl⟩
abbrev main_call0_call0_call0_v82 : Ref sig .tc := ⟨.hbm, 130, rfl⟩
abbrev main_call0_call0_call0_v83 : Ref sig .tc := ⟨.hbm, 131, rfl⟩
abbrev main_call0_call0_call0_c_21 : Ref sig .tc := ⟨.hbm, 132, rfl⟩
abbrev main_call0_call0_call0_v84 : Ref sig .tc := ⟨.hbm, 133, rfl⟩
abbrev main_call0_call0_call0_v85 : Ref sig .tc := ⟨.hbm, 134, rfl⟩
abbrev main_call0_call0_call0_v86 : Ref sig .tc := ⟨.hbm, 135, rfl⟩
abbrev main_call0_call0_call0_v87 : Ref sig .tc := ⟨.hbm, 136, rfl⟩
abbrev main_call0_call0_call0_v88 : Ref sig .tc := ⟨.hbm, 137, rfl⟩
abbrev main_call0_call0_call0_c_22 : Ref sig .tc := ⟨.hbm, 138, rfl⟩
abbrev main_call0_call0_call0_v89 : Ref sig .tc := ⟨.hbm, 139, rfl⟩
abbrev main_call0_call0_call0_v90 : Ref sig .tc := ⟨.hbm, 140, rfl⟩
abbrev main_call0_call0_call0_c_23 : Ref sig .tc := ⟨.hbm, 141, rfl⟩
abbrev main_call0_call0_call0_v91 : Ref sig .tc := ⟨.hbm, 142, rfl⟩
abbrev main_call0_call0_call0_v92 : Ref sig .tc := ⟨.hbm, 143, rfl⟩
abbrev main_call0_call0_call0_v93 : Ref sig .tc := ⟨.hbm, 144, rfl⟩
abbrev main_call0_call0_call0_v94 : Ref sig .tc := ⟨.hbm, 145, rfl⟩
abbrev main_call0_call0_call0_v95 : Ref sig .tc := ⟨.hbm, 146, rfl⟩
abbrev main_call0_call0_call0_c_24 : Ref sig .tc := ⟨.hbm, 147, rfl⟩
abbrev main_call0_call0_call0_v96 : Ref sig .tc := ⟨.hbm, 148, rfl⟩
abbrev main_call0_call0_call0_v97 : Ref sig .tc := ⟨.hbm, 149, rfl⟩
abbrev main_call0_call0_call0_c_25 : Ref sig .tc := ⟨.hbm, 150, rfl⟩
abbrev main_call0_call0_call0_v98 : Ref sig .tc := ⟨.hbm, 151, rfl⟩
abbrev main_call0_call0_call0_v99 : Ref sig .tc := ⟨.hbm, 152, rfl⟩
abbrev main_call0_call0_call0_v100 : Ref sig .tc := ⟨.hbm, 153, rfl⟩
abbrev main_call0_call0_call0_v101 : Ref sig .tc := ⟨.hbm, 154, rfl⟩
abbrev main_call0_call0_call0_v102 : Ref sig .tc := ⟨.hbm, 155, rfl⟩
abbrev main_call0_call0_call0_v103 : Ref sig .tc := ⟨.hbm, 156, rfl⟩
abbrev main_call0_call0_call0_v104 : Ref sig .tc := ⟨.hbm, 157, rfl⟩
abbrev main_call0_call0_call0_v105 : Ref sig .tc := ⟨.hbm, 158, rfl⟩
abbrev main_call0_call0_call0_c_26 : Ref sig .tc := ⟨.hbm, 159, rfl⟩
abbrev main_call0_call0_call0_v106 : Ref sig .tc := ⟨.hbm, 160, rfl⟩
abbrev main_call0_call0_call0_v107 : Ref sig .tc := ⟨.hbm, 161, rfl⟩
abbrev main_call0_call0_call0_v108 : Ref sig .tc := ⟨.hbm, 162, rfl⟩
abbrev main_call0_call0_call0_c_27 : Ref sig .tc := ⟨.hbm, 163, rfl⟩
abbrev main_call0_call0_call0_v109 : Ref sig .tc := ⟨.hbm, 164, rfl⟩
abbrev main_call0_call0_call0_v110 : Ref sig .tc := ⟨.hbm, 165, rfl⟩
abbrev main_call0_call0_call0_c_28 : Ref sig .tc := ⟨.hbm, 166, rfl⟩
abbrev main_call0_call0_call0_v111 : Ref sig .tc := ⟨.hbm, 167, rfl⟩
abbrev main_call0_call0_call0_v112 : Ref sig .tc := ⟨.hbm, 168, rfl⟩
abbrev main_call0_call0_call0_v113 : Ref sig .tc := ⟨.hbm, 169, rfl⟩
abbrev main_call0_call0_call0_v114 : Ref sig .tc := ⟨.hbm, 170, rfl⟩
abbrev main_call0_call0_call0_v115 : Ref sig .tc := ⟨.hbm, 171, rfl⟩
abbrev main_call0_call0_call0_c_29 : Ref sig .tc := ⟨.hbm, 172, rfl⟩
abbrev main_call0_call0_call0_v116 : Ref sig .tc := ⟨.hbm, 173, rfl⟩
abbrev main_call0_call0_call0_v117 : Ref sig .tc := ⟨.hbm, 174, rfl⟩
abbrev main_call0_call0_call0_c_30 : Ref sig .tc := ⟨.hbm, 175, rfl⟩
abbrev main_call0_call0_call0_v118 : Ref sig .tc := ⟨.hbm, 176, rfl⟩
abbrev main_call0_call0_call0_v119 : Ref sig .tc := ⟨.hbm, 177, rfl⟩
abbrev main_call0_call0_call0_v120 : Ref sig .tc := ⟨.hbm, 178, rfl⟩
abbrev main_call0_call0_call0_v121 : Ref sig .tc := ⟨.hbm, 179, rfl⟩
abbrev main_call0_call0_call0_v122 : Ref sig .tc := ⟨.hbm, 180, rfl⟩
abbrev main_call0_call0_call0_c_31 : Ref sig .tc := ⟨.hbm, 181, rfl⟩
abbrev main_call0_call0_call0_v123 : Ref sig .tc := ⟨.hbm, 182, rfl⟩
abbrev main_call0_call0_call0_v124 : Ref sig .tc := ⟨.hbm, 183, rfl⟩
abbrev main_call0_call0_call0_c_32 : Ref sig .tc := ⟨.hbm, 184, rfl⟩
abbrev main_call0_call0_call0_v125 : Ref sig .tc := ⟨.hbm, 185, rfl⟩
abbrev main_call0_call0_call0_v126 : Ref sig .tc := ⟨.hbm, 186, rfl⟩
abbrev main_call0_call0_call0_v127 : Ref sig .tc := ⟨.hbm, 187, rfl⟩
abbrev main_call0_call0_call0_v128 : Ref sig .tc := ⟨.hbm, 188, rfl⟩
abbrev main_call0_call0_call0_v129 : Ref sig .tc := ⟨.hbm, 189, rfl⟩
abbrev main_call0_call0_call0_c_33 : Ref sig .tc := ⟨.hbm, 190, rfl⟩
abbrev main_call0_call0_call0_v130 : Ref sig .tc := ⟨.hbm, 191, rfl⟩
abbrev main_call0_call0_call0_v131 : Ref sig .tc := ⟨.hbm, 192, rfl⟩
abbrev main_call0_call0_call0_c_34 : Ref sig .tc := ⟨.hbm, 193, rfl⟩
abbrev main_call0_call0_call0_v132 : Ref sig .tc := ⟨.hbm, 194, rfl⟩
abbrev main_call0_call0_call0_v133 : Ref sig .tc := ⟨.hbm, 195, rfl⟩
abbrev main_call0_call0_call0_v134 : Ref sig .tc := ⟨.hbm, 196, rfl⟩
abbrev main_call0_call0_call0_v135 : Ref sig .tc := ⟨.hbm, 197, rfl⟩
abbrev main_call0_call0_call0_v136 : Ref sig .tc := ⟨.hbm, 198, rfl⟩
abbrev main_call0_call0_call0_v137 : Ref sig .tc := ⟨.hbm, 199, rfl⟩
abbrev main_call0_call0_call0_v138 : Ref sig .tc := ⟨.hbm, 200, rfl⟩
abbrev main_call0_call0_call0_v139 : Ref sig .tc := ⟨.hbm, 201, rfl⟩
abbrev main_call0_call0_call0_c_35 : Ref sig .tc := ⟨.hbm, 202, rfl⟩
abbrev main_call0_call0_call0_v140 : Ref sig .tc := ⟨.hbm, 203, rfl⟩
abbrev main_call0_call0_call0_v141 : Ref sig .tc := ⟨.hbm, 204, rfl⟩
abbrev main_call0_call0_call0_v142 : Ref sig .tc := ⟨.hbm, 205, rfl⟩
abbrev main_call0_call0_call0_c_36 : Ref sig .tc := ⟨.hbm, 206, rfl⟩
abbrev main_call0_call0_call0_v143 : Ref sig .tc := ⟨.hbm, 207, rfl⟩
abbrev main_call0_call0_call0_v144 : Ref sig .tc := ⟨.hbm, 208, rfl⟩
abbrev main_call0_call0_call0_c_37 : Ref sig .tc := ⟨.hbm, 209, rfl⟩
abbrev main_call0_call0_call0_v145 : Ref sig .tc := ⟨.hbm, 210, rfl⟩
abbrev main_call0_call0_call0_v146 : Ref sig .tc := ⟨.hbm, 211, rfl⟩
abbrev main_call0_call0_call0_v147 : Ref sig .tc := ⟨.hbm, 212, rfl⟩
abbrev main_call0_call0_call0_v148 : Ref sig .tc := ⟨.hbm, 213, rfl⟩
abbrev main_call0_call0_call0_v149 : Ref sig .tc := ⟨.hbm, 214, rfl⟩
abbrev main_call0_call0_call0_c_38 : Ref sig .tc := ⟨.hbm, 215, rfl⟩
abbrev main_call0_call0_call0_v150 : Ref sig .tc := ⟨.hbm, 216, rfl⟩
abbrev main_call0_call0_call0_v151 : Ref sig .tc := ⟨.hbm, 217, rfl⟩
abbrev main_call0_call0_call0_c_39 : Ref sig .tc := ⟨.hbm, 218, rfl⟩
abbrev main_call0_call0_call0_v152 : Ref sig .tc := ⟨.hbm, 219, rfl⟩
abbrev main_call0_call0_call0_v153 : Ref sig .tc := ⟨.hbm, 220, rfl⟩
abbrev main_call0_call0_call0_v154 : Ref sig .tc := ⟨.hbm, 221, rfl⟩
abbrev main_call0_call0_call0_v155 : Ref sig .tc := ⟨.hbm, 222, rfl⟩
abbrev main_call0_call0_call0_v156 : Ref sig .tc := ⟨.hbm, 223, rfl⟩
abbrev main_call0_call0_call0_c_40 : Ref sig .tc := ⟨.hbm, 224, rfl⟩
abbrev main_call0_call0_call0_v157 : Ref sig .tc := ⟨.hbm, 225, rfl⟩
abbrev main_call0_call0_call0_v158 : Ref sig .tc := ⟨.hbm, 226, rfl⟩
abbrev main_call0_call0_call0_c_41 : Ref sig .tc := ⟨.hbm, 227, rfl⟩
abbrev main_call0_call0_call0_v159 : Ref sig .tc := ⟨.hbm, 228, rfl⟩
abbrev main_call0_call0_call0_v160 : Ref sig .tc := ⟨.hbm, 229, rfl⟩
abbrev main_call0_call0_call0_v161 : Ref sig .tc := ⟨.hbm, 230, rfl⟩
abbrev main_call0_call0_call0_v162 : Ref sig .tc := ⟨.hbm, 231, rfl⟩
abbrev main_call0_call0_call0_v163 : Ref sig .tc := ⟨.hbm, 232, rfl⟩
abbrev main_call0_call0_call0_c_42 : Ref sig .tc := ⟨.hbm, 233, rfl⟩
abbrev main_call0_call0_call0_v164 : Ref sig .tc := ⟨.hbm, 234, rfl⟩
abbrev main_call0_call0_call0_v165 : Ref sig .tc := ⟨.hbm, 235, rfl⟩
abbrev main_call0_call0_call0_c_43 : Ref sig .tc := ⟨.hbm, 236, rfl⟩
abbrev main_call0_call0_call0_v166 : Ref sig .tc := ⟨.hbm, 237, rfl⟩
abbrev main_call0_call0_call0_v167 : Ref sig .tc := ⟨.hbm, 238, rfl⟩
abbrev main_call0_call0_call0_v168 : Ref sig .tc := ⟨.hbm, 239, rfl⟩
abbrev main_call0_call0_call0_v169 : Ref sig .tc := ⟨.hbm, 240, rfl⟩
abbrev main_call0_call0_call0_v170 : Ref sig .tc := ⟨.hbm, 241, rfl⟩
abbrev main_call0_call0_v11_0 : Ref sig .tc := ⟨.hbm, 242, rfl⟩
abbrev main_call0_call0_call0_v172 : Ref sig .tc := ⟨.hbm, 243, rfl⟩
abbrev main_call0_call0_call0_v173 : Ref sig .tc := ⟨.hbm, 244, rfl⟩
abbrev main_call0_call0_call0_c_44 : Ref sig .tc := ⟨.hbm, 245, rfl⟩
abbrev main_call0_call0_call0_v174 : Ref sig .tc := ⟨.hbm, 246, rfl⟩
abbrev main_call0_call0_v11_1 : Ref sig .tc := ⟨.hbm, 247, rfl⟩
abbrev main_call0_call0_v12 : Ref sig .tc := ⟨.hbm, 248, rfl⟩
abbrev main_call0_call0_v13 : Ref sig .tc := ⟨.hbm, 249, rfl⟩
abbrev main_call0_v0 : Ref sig .tc := ⟨.hbm, 250, rfl⟩
abbrev main_call0_v1 : Ref sig .tc := ⟨.hbm, 251, rfl⟩
abbrev main_call0_v2 : Ref sig .tc := ⟨.hbm, 252, rfl⟩
abbrev main_call0_v3 : Ref sig .tc := ⟨.hbm, 253, rfl⟩
abbrev main_call0_v4 : Ref sig .tc := ⟨.hbm, 254, rfl⟩
abbrev main_call0_v5 : Ref sig .tc := ⟨.hbm, 255, rfl⟩
abbrev main_call0_v6 : Ref sig .tc := ⟨.hbm, 256, rfl⟩
abbrev main_call0_v7 : Ref sig .tc := ⟨.hbm, 257, rfl⟩
abbrev main_call0_v8 : Ref sig .tc := ⟨.hbm, 258, rfl⟩
abbrev main_call0_v9 : Ref sig .tc := ⟨.hbm, 259, rfl⟩
abbrev main_call0_c : Ref sig .tc := ⟨.hbm, 260, rfl⟩
abbrev main_call0_v10 : Ref sig .tc := ⟨.hbm, 261, rfl⟩
abbrev main_call0_v11 : Ref sig .tc := ⟨.hbm, 262, rfl⟩
abbrev main_call0_c_0 : Ref sig .tc := ⟨.hbm, 263, rfl⟩
abbrev main_call0_v12 : Ref sig .tc := ⟨.hbm, 264, rfl⟩
abbrev main_call0_v13 : Ref sig .tc := ⟨.hbm, 265, rfl⟩
abbrev main_call0_v14 : Ref sig .tc := ⟨.hbm, 266, rfl⟩
abbrev main_call0_v15 : Ref sig .tc := ⟨.hbm, 267, rfl⟩
abbrev main_call0_call1_v0 : Ref sig .tc := ⟨.hbm, 268, rfl⟩
abbrev main_call0_call1_c : Ref sig .tc := ⟨.hbm, 269, rfl⟩
abbrev main_call0_call1_v1 : Ref sig .tc := ⟨.hbm, 270, rfl⟩
abbrev main_call0_call1_v2 : Ref sig .tc := ⟨.hbm, 271, rfl⟩
abbrev main_call0_call1_v3 : Ref sig .tc := ⟨.hbm, 272, rfl⟩
abbrev main_call0_call1_v4 : Ref sig .tc := ⟨.hbm, 273, rfl⟩
abbrev main_call0_call1_v5 : Ref sig .tc := ⟨.hbm, 274, rfl⟩
abbrev main_call0_call1_v6 : Ref sig .tc := ⟨.hbm, 275, rfl⟩
abbrev main_call0_call1_c_0 : Ref sig .tc := ⟨.hbm, 276, rfl⟩
abbrev main_call0_call1_v7 : Ref sig .tc := ⟨.hbm, 277, rfl⟩
abbrev main_call0_call1_v8 : Ref sig .tc := ⟨.hbm, 278, rfl⟩
abbrev main_call0_call1_c_1 : Ref sig .tc := ⟨.hbm, 279, rfl⟩
abbrev main_call0_call1_v9 : Ref sig .tc := ⟨.hbm, 280, rfl⟩
abbrev main_call0_call1_v10 : Ref sig .tc := ⟨.hbm, 281, rfl⟩
abbrev main_call0_call1_v11 : Ref sig .tc := ⟨.hbm, 282, rfl⟩
abbrev main_call0_call1_v12 : Ref sig .tc := ⟨.hbm, 283, rfl⟩
abbrev main_call0_call1_v13 : Ref sig .tc := ⟨.hbm, 284, rfl⟩
abbrev main_call0_call1_c_2 : Ref sig .tc := ⟨.hbm, 285, rfl⟩
abbrev main_call0_call1_v14 : Ref sig .tc := ⟨.hbm, 286, rfl⟩
abbrev main_call0_call1_v15 : Ref sig .tc := ⟨.hbm, 287, rfl⟩
abbrev main_call0_call1_c_3 : Ref sig .tc := ⟨.hbm, 288, rfl⟩
abbrev main_call0_call1_v16 : Ref sig .tc := ⟨.hbm, 289, rfl⟩
abbrev main_call0_call1_v17 : Ref sig .tc := ⟨.hbm, 290, rfl⟩
abbrev main_call0_call1_v18 : Ref sig .tc := ⟨.hbm, 291, rfl⟩
abbrev main_call0_call1_v19 : Ref sig .tc := ⟨.hbm, 292, rfl⟩
abbrev main_call0_call1_v20 : Ref sig .tc := ⟨.hbm, 293, rfl⟩
abbrev main_call0_call1_c_4 : Ref sig .tc := ⟨.hbm, 294, rfl⟩
abbrev main_call0_call1_v21 : Ref sig .tc := ⟨.hbm, 295, rfl⟩
abbrev main_call0_call1_v22 : Ref sig .tc := ⟨.hbm, 296, rfl⟩
abbrev main_call0_call1_c_5 : Ref sig .tc := ⟨.hbm, 297, rfl⟩
abbrev main_call0_call1_v23 : Ref sig .tc := ⟨.hbm, 298, rfl⟩
abbrev main_call0_call1_v24 : Ref sig .tc := ⟨.hbm, 299, rfl⟩
abbrev main_call0_call1_v25 : Ref sig .tc := ⟨.hbm, 300, rfl⟩
abbrev main_call0_call1_v26 : Ref sig .tc := ⟨.hbm, 301, rfl⟩
abbrev main_call0_call1_v27 : Ref sig .tc := ⟨.hbm, 302, rfl⟩
abbrev main_call0_call1_c_6 : Ref sig .tc := ⟨.hbm, 303, rfl⟩
abbrev main_call0_call1_v28 : Ref sig .tc := ⟨.hbm, 304, rfl⟩
abbrev main_call0_call1_v29 : Ref sig .tc := ⟨.hbm, 305, rfl⟩
abbrev main_call0_call1_c_7 : Ref sig .tc := ⟨.hbm, 306, rfl⟩
abbrev main_call0_call1_v30 : Ref sig .tc := ⟨.hbm, 307, rfl⟩
abbrev main_call0_call1_v31 : Ref sig .tc := ⟨.hbm, 308, rfl⟩
abbrev main_call0_call1_v32 : Ref sig .tc := ⟨.hbm, 309, rfl⟩
abbrev main_call0_call1_v33 : Ref sig .tc := ⟨.hbm, 310, rfl⟩
abbrev main_call0_call1_v34 : Ref sig .tc := ⟨.hbm, 311, rfl⟩
abbrev main_call0_call1_v35 : Ref sig .tc := ⟨.hbm, 312, rfl⟩
abbrev main_call0_call1_v36 : Ref sig .tc := ⟨.hbm, 313, rfl⟩
abbrev main_call0_call1_v37 : Ref sig .tc := ⟨.hbm, 314, rfl⟩
abbrev main_call0_call1_c_8 : Ref sig .tc := ⟨.hbm, 315, rfl⟩
abbrev main_call0_call1_v38 : Ref sig .tc := ⟨.hbm, 316, rfl⟩
abbrev main_call0_call1_v39 : Ref sig .tc := ⟨.hbm, 317, rfl⟩
abbrev main_call0_call1_v40 : Ref sig .tc := ⟨.hbm, 318, rfl⟩
abbrev main_call0_call1_c_9 : Ref sig .tc := ⟨.hbm, 319, rfl⟩
abbrev main_call0_call1_v41 : Ref sig .tc := ⟨.hbm, 320, rfl⟩
abbrev main_call0_call1_v42 : Ref sig .tc := ⟨.hbm, 321, rfl⟩
abbrev main_call0_call1_c_10 : Ref sig .tc := ⟨.hbm, 322, rfl⟩
abbrev main_call0_call1_v43 : Ref sig .tc := ⟨.hbm, 323, rfl⟩
abbrev main_call0_call1_v44 : Ref sig .tc := ⟨.hbm, 324, rfl⟩
abbrev main_call0_call1_v45 : Ref sig .tc := ⟨.hbm, 325, rfl⟩
abbrev main_call0_call1_v46 : Ref sig .tc := ⟨.hbm, 326, rfl⟩
abbrev main_call0_call1_v47 : Ref sig .tc := ⟨.hbm, 327, rfl⟩
abbrev main_call0_call1_c_11 : Ref sig .tc := ⟨.hbm, 328, rfl⟩
abbrev main_call0_call1_v48 : Ref sig .tc := ⟨.hbm, 329, rfl⟩
abbrev main_call0_call1_v49 : Ref sig .tc := ⟨.hbm, 330, rfl⟩
abbrev main_call0_call1_c_12 : Ref sig .tc := ⟨.hbm, 331, rfl⟩
abbrev main_call0_call1_v50 : Ref sig .tc := ⟨.hbm, 332, rfl⟩
abbrev main_call0_call1_v51 : Ref sig .tc := ⟨.hbm, 333, rfl⟩
abbrev main_call0_call1_v52 : Ref sig .tc := ⟨.hbm, 334, rfl⟩
abbrev main_call0_call1_v53 : Ref sig .tc := ⟨.hbm, 335, rfl⟩
abbrev main_call0_call1_v54 : Ref sig .tc := ⟨.hbm, 336, rfl⟩
abbrev main_call0_call1_c_13 : Ref sig .tc := ⟨.hbm, 337, rfl⟩
abbrev main_call0_call1_v55 : Ref sig .tc := ⟨.hbm, 338, rfl⟩
abbrev main_call0_call1_v56 : Ref sig .tc := ⟨.hbm, 339, rfl⟩
abbrev main_call0_call1_c_14 : Ref sig .tc := ⟨.hbm, 340, rfl⟩
abbrev main_call0_call1_v57 : Ref sig .tc := ⟨.hbm, 341, rfl⟩
abbrev main_call0_call1_v58 : Ref sig .tc := ⟨.hbm, 342, rfl⟩
abbrev main_call0_call1_v59 : Ref sig .tc := ⟨.hbm, 343, rfl⟩
abbrev main_call0_call1_v60 : Ref sig .tc := ⟨.hbm, 344, rfl⟩
abbrev main_call0_call1_v61 : Ref sig .tc := ⟨.hbm, 345, rfl⟩
abbrev main_call0_call1_c_15 : Ref sig .tc := ⟨.hbm, 346, rfl⟩
abbrev main_call0_call1_v62 : Ref sig .tc := ⟨.hbm, 347, rfl⟩
abbrev main_call0_call1_v63 : Ref sig .tc := ⟨.hbm, 348, rfl⟩
abbrev main_call0_call1_c_16 : Ref sig .tc := ⟨.hbm, 349, rfl⟩
abbrev main_call0_call1_v64 : Ref sig .tc := ⟨.hbm, 350, rfl⟩
abbrev main_call0_call1_v65 : Ref sig .tc := ⟨.hbm, 351, rfl⟩
abbrev main_call0_call1_v66 : Ref sig .tc := ⟨.hbm, 352, rfl⟩
abbrev main_call0_call1_v67 : Ref sig .tc := ⟨.hbm, 353, rfl⟩
abbrev main_call0_call1_v68 : Ref sig .tc := ⟨.hbm, 354, rfl⟩
abbrev main_call0_call1_v69 : Ref sig .tc := ⟨.hbm, 355, rfl⟩
abbrev main_call0_call1_v70 : Ref sig .tc := ⟨.hbm, 356, rfl⟩
abbrev main_call0_call1_v71 : Ref sig .tc := ⟨.hbm, 357, rfl⟩
abbrev main_call0_call1_c_17 : Ref sig .tc := ⟨.hbm, 358, rfl⟩
abbrev main_call0_call1_v72 : Ref sig .tc := ⟨.hbm, 359, rfl⟩
abbrev main_call0_call1_v73 : Ref sig .tc := ⟨.hbm, 360, rfl⟩
abbrev main_call0_call1_v74 : Ref sig .tc := ⟨.hbm, 361, rfl⟩
abbrev main_call0_call1_c_18 : Ref sig .tc := ⟨.hbm, 362, rfl⟩
abbrev main_call0_call1_v75 : Ref sig .tc := ⟨.hbm, 363, rfl⟩
abbrev main_call0_call1_v76 : Ref sig .tc := ⟨.hbm, 364, rfl⟩
abbrev main_call0_call1_c_19 : Ref sig .tc := ⟨.hbm, 365, rfl⟩
abbrev main_call0_call1_v77 : Ref sig .tc := ⟨.hbm, 366, rfl⟩
abbrev main_call0_call1_v78 : Ref sig .tc := ⟨.hbm, 367, rfl⟩
abbrev main_call0_call1_v79 : Ref sig .tc := ⟨.hbm, 368, rfl⟩
abbrev main_call0_call1_v80 : Ref sig .tc := ⟨.hbm, 369, rfl⟩
abbrev main_call0_call1_v81 : Ref sig .tc := ⟨.hbm, 370, rfl⟩
abbrev main_call0_call1_c_20 : Ref sig .tc := ⟨.hbm, 371, rfl⟩
abbrev main_call0_call1_v82 : Ref sig .tc := ⟨.hbm, 372, rfl⟩
abbrev main_call0_call1_v83 : Ref sig .tc := ⟨.hbm, 373, rfl⟩
abbrev main_call0_call1_c_21 : Ref sig .tc := ⟨.hbm, 374, rfl⟩
abbrev main_call0_call1_v84 : Ref sig .tc := ⟨.hbm, 375, rfl⟩
abbrev main_call0_call1_v85 : Ref sig .tc := ⟨.hbm, 376, rfl⟩
abbrev main_call0_call1_v86 : Ref sig .tc := ⟨.hbm, 377, rfl⟩
abbrev main_call0_call1_v87 : Ref sig .tc := ⟨.hbm, 378, rfl⟩
abbrev main_call0_call1_v88 : Ref sig .tc := ⟨.hbm, 379, rfl⟩
abbrev main_call0_call1_c_22 : Ref sig .tc := ⟨.hbm, 380, rfl⟩
abbrev main_call0_call1_v89 : Ref sig .tc := ⟨.hbm, 381, rfl⟩
abbrev main_call0_call1_v90 : Ref sig .tc := ⟨.hbm, 382, rfl⟩
abbrev main_call0_call1_c_23 : Ref sig .tc := ⟨.hbm, 383, rfl⟩
abbrev main_call0_call1_v91 : Ref sig .tc := ⟨.hbm, 384, rfl⟩
abbrev main_call0_call1_v92 : Ref sig .tc := ⟨.hbm, 385, rfl⟩
abbrev main_call0_call1_v93 : Ref sig .tc := ⟨.hbm, 386, rfl⟩
abbrev main_call0_call1_v94 : Ref sig .tc := ⟨.hbm, 387, rfl⟩
abbrev main_call0_call1_v95 : Ref sig .tc := ⟨.hbm, 388, rfl⟩
abbrev main_call0_call1_c_24 : Ref sig .tc := ⟨.hbm, 389, rfl⟩
abbrev main_call0_call1_v96 : Ref sig .tc := ⟨.hbm, 390, rfl⟩
abbrev main_call0_call1_v97 : Ref sig .tc := ⟨.hbm, 391, rfl⟩
abbrev main_call0_call1_c_25 : Ref sig .tc := ⟨.hbm, 392, rfl⟩
abbrev main_call0_call1_v98 : Ref sig .tc := ⟨.hbm, 393, rfl⟩
abbrev main_call0_call1_v99 : Ref sig .tc := ⟨.hbm, 394, rfl⟩
abbrev main_call0_call1_v100 : Ref sig .tc := ⟨.hbm, 395, rfl⟩
abbrev main_call0_call1_v101 : Ref sig .tc := ⟨.hbm, 396, rfl⟩
abbrev main_call0_call1_v102 : Ref sig .tc := ⟨.hbm, 397, rfl⟩
abbrev main_call0_call1_v103 : Ref sig .tc := ⟨.hbm, 398, rfl⟩
abbrev main_call0_call1_v104 : Ref sig .tc := ⟨.hbm, 399, rfl⟩
abbrev main_call0_call1_v105 : Ref sig .tc := ⟨.hbm, 400, rfl⟩
abbrev main_call0_call1_c_26 : Ref sig .tc := ⟨.hbm, 401, rfl⟩
abbrev main_call0_call1_v106 : Ref sig .tc := ⟨.hbm, 402, rfl⟩
abbrev main_call0_call1_v107 : Ref sig .tc := ⟨.hbm, 403, rfl⟩
abbrev main_call0_call1_v108 : Ref sig .tc := ⟨.hbm, 404, rfl⟩
abbrev main_call0_call1_c_27 : Ref sig .tc := ⟨.hbm, 405, rfl⟩
abbrev main_call0_call1_v109 : Ref sig .tc := ⟨.hbm, 406, rfl⟩
abbrev main_call0_call1_v110 : Ref sig .tc := ⟨.hbm, 407, rfl⟩
abbrev main_call0_call1_c_28 : Ref sig .tc := ⟨.hbm, 408, rfl⟩
abbrev main_call0_call1_v111 : Ref sig .tc := ⟨.hbm, 409, rfl⟩
abbrev main_call0_call1_v112 : Ref sig .tc := ⟨.hbm, 410, rfl⟩
abbrev main_call0_call1_v113 : Ref sig .tc := ⟨.hbm, 411, rfl⟩
abbrev main_call0_call1_v114 : Ref sig .tc := ⟨.hbm, 412, rfl⟩
abbrev main_call0_call1_v115 : Ref sig .tc := ⟨.hbm, 413, rfl⟩
abbrev main_call0_call1_c_29 : Ref sig .tc := ⟨.hbm, 414, rfl⟩
abbrev main_call0_call1_v116 : Ref sig .tc := ⟨.hbm, 415, rfl⟩
abbrev main_call0_call1_v117 : Ref sig .tc := ⟨.hbm, 416, rfl⟩
abbrev main_call0_call1_c_30 : Ref sig .tc := ⟨.hbm, 417, rfl⟩
abbrev main_call0_call1_v118 : Ref sig .tc := ⟨.hbm, 418, rfl⟩
abbrev main_call0_call1_v119 : Ref sig .tc := ⟨.hbm, 419, rfl⟩
abbrev main_call0_call1_v120 : Ref sig .tc := ⟨.hbm, 420, rfl⟩
abbrev main_call0_call1_v121 : Ref sig .tc := ⟨.hbm, 421, rfl⟩
abbrev main_call0_call1_v122 : Ref sig .tc := ⟨.hbm, 422, rfl⟩
abbrev main_call0_call1_c_31 : Ref sig .tc := ⟨.hbm, 423, rfl⟩
abbrev main_call0_call1_v123 : Ref sig .tc := ⟨.hbm, 424, rfl⟩
abbrev main_call0_call1_v124 : Ref sig .tc := ⟨.hbm, 425, rfl⟩
abbrev main_call0_call1_c_32 : Ref sig .tc := ⟨.hbm, 426, rfl⟩
abbrev main_call0_call1_v125 : Ref sig .tc := ⟨.hbm, 427, rfl⟩
abbrev main_call0_call1_v126 : Ref sig .tc := ⟨.hbm, 428, rfl⟩
abbrev main_call0_call1_v127 : Ref sig .tc := ⟨.hbm, 429, rfl⟩
abbrev main_call0_call1_v128 : Ref sig .tc := ⟨.hbm, 430, rfl⟩
abbrev main_call0_call1_v129 : Ref sig .tc := ⟨.hbm, 431, rfl⟩
abbrev main_call0_call1_c_33 : Ref sig .tc := ⟨.hbm, 432, rfl⟩
abbrev main_call0_call1_v130 : Ref sig .tc := ⟨.hbm, 433, rfl⟩
abbrev main_call0_call1_v131 : Ref sig .tc := ⟨.hbm, 434, rfl⟩
abbrev main_call0_call1_c_34 : Ref sig .tc := ⟨.hbm, 435, rfl⟩
abbrev main_call0_call1_v132 : Ref sig .tc := ⟨.hbm, 436, rfl⟩
abbrev main_call0_call1_v133 : Ref sig .tc := ⟨.hbm, 437, rfl⟩
abbrev main_call0_call1_v134 : Ref sig .tc := ⟨.hbm, 438, rfl⟩
abbrev main_call0_call1_v135 : Ref sig .tc := ⟨.hbm, 439, rfl⟩
abbrev main_call0_call1_v136 : Ref sig .tc := ⟨.hbm, 440, rfl⟩
abbrev main_call0_call1_v137 : Ref sig .tc := ⟨.hbm, 441, rfl⟩
abbrev main_call0_call1_v138 : Ref sig .tc := ⟨.hbm, 442, rfl⟩
abbrev main_call0_call1_v139 : Ref sig .tc := ⟨.hbm, 443, rfl⟩
abbrev main_call0_call1_c_35 : Ref sig .tc := ⟨.hbm, 444, rfl⟩
abbrev main_call0_call1_v140 : Ref sig .tc := ⟨.hbm, 445, rfl⟩
abbrev main_call0_call1_v141 : Ref sig .tc := ⟨.hbm, 446, rfl⟩
abbrev main_call0_call1_v142 : Ref sig .tc := ⟨.hbm, 447, rfl⟩
abbrev main_call0_call1_c_36 : Ref sig .tc := ⟨.hbm, 448, rfl⟩
abbrev main_call0_call1_v143 : Ref sig .tc := ⟨.hbm, 449, rfl⟩
abbrev main_call0_call1_v144 : Ref sig .tc := ⟨.hbm, 450, rfl⟩
abbrev main_call0_call1_c_37 : Ref sig .tc := ⟨.hbm, 451, rfl⟩
abbrev main_call0_call1_v145 : Ref sig .tc := ⟨.hbm, 452, rfl⟩
abbrev main_call0_call1_v146 : Ref sig .tc := ⟨.hbm, 453, rfl⟩
abbrev main_call0_call1_v147 : Ref sig .tc := ⟨.hbm, 454, rfl⟩
abbrev main_call0_call1_v148 : Ref sig .tc := ⟨.hbm, 455, rfl⟩
abbrev main_call0_call1_v149 : Ref sig .tc := ⟨.hbm, 456, rfl⟩
abbrev main_call0_call1_c_38 : Ref sig .tc := ⟨.hbm, 457, rfl⟩
abbrev main_call0_call1_v150 : Ref sig .tc := ⟨.hbm, 458, rfl⟩
abbrev main_call0_call1_v151 : Ref sig .tc := ⟨.hbm, 459, rfl⟩
abbrev main_call0_call1_c_39 : Ref sig .tc := ⟨.hbm, 460, rfl⟩
abbrev main_call0_call1_v152 : Ref sig .tc := ⟨.hbm, 461, rfl⟩
abbrev main_call0_call1_v153 : Ref sig .tc := ⟨.hbm, 462, rfl⟩
abbrev main_call0_call1_v154 : Ref sig .tc := ⟨.hbm, 463, rfl⟩
abbrev main_call0_call1_v155 : Ref sig .tc := ⟨.hbm, 464, rfl⟩
abbrev main_call0_call1_v156 : Ref sig .tc := ⟨.hbm, 465, rfl⟩
abbrev main_call0_call1_c_40 : Ref sig .tc := ⟨.hbm, 466, rfl⟩
abbrev main_call0_call1_v157 : Ref sig .tc := ⟨.hbm, 467, rfl⟩
abbrev main_call0_call1_v158 : Ref sig .tc := ⟨.hbm, 468, rfl⟩
abbrev main_call0_call1_c_41 : Ref sig .tc := ⟨.hbm, 469, rfl⟩
abbrev main_call0_call1_v159 : Ref sig .tc := ⟨.hbm, 470, rfl⟩
abbrev main_call0_call1_v160 : Ref sig .tc := ⟨.hbm, 471, rfl⟩
abbrev main_call0_call1_v161 : Ref sig .tc := ⟨.hbm, 472, rfl⟩
abbrev main_call0_call1_v162 : Ref sig .tc := ⟨.hbm, 473, rfl⟩
abbrev main_call0_call1_v163 : Ref sig .tc := ⟨.hbm, 474, rfl⟩
abbrev main_call0_call1_c_42 : Ref sig .tc := ⟨.hbm, 475, rfl⟩
abbrev main_call0_call1_v164 : Ref sig .tc := ⟨.hbm, 476, rfl⟩
abbrev main_call0_call1_v165 : Ref sig .tc := ⟨.hbm, 477, rfl⟩
abbrev main_call0_call1_c_43 : Ref sig .tc := ⟨.hbm, 478, rfl⟩
abbrev main_call0_call1_v166 : Ref sig .tc := ⟨.hbm, 479, rfl⟩
abbrev main_call0_call1_v167 : Ref sig .tc := ⟨.hbm, 480, rfl⟩
abbrev main_call0_call1_v168 : Ref sig .tc := ⟨.hbm, 481, rfl⟩
abbrev main_call0_call1_v169 : Ref sig .tc := ⟨.hbm, 482, rfl⟩
abbrev main_call0_call1_v170 : Ref sig .tc := ⟨.hbm, 483, rfl⟩
abbrev main_call0_v16_0 : Ref sig .tc := ⟨.hbm, 484, rfl⟩
abbrev main_call0_call1_v172 : Ref sig .tc := ⟨.hbm, 485, rfl⟩
abbrev main_call0_call1_v173 : Ref sig .tc := ⟨.hbm, 486, rfl⟩
abbrev main_call0_call1_c_44 : Ref sig .tc := ⟨.hbm, 487, rfl⟩
abbrev main_call0_call1_v174 : Ref sig .tc := ⟨.hbm, 488, rfl⟩
abbrev main_call0_v16_1 : Ref sig .tc := ⟨.hbm, 489, rfl⟩
abbrev main_call0_v17 : Ref sig .tc := ⟨.hbm, 490, rfl⟩
abbrev main_call0_v18_0 : Ref sig .tc := ⟨.hbm, 491, rfl⟩
abbrev main_v8 : Ref sig .tc := ⟨.hbm, 492, rfl⟩
abbrev main_v9 : Ref sig .tc := ⟨.hbm, 493, rfl⟩
abbrev main_v10 : Ref sig .tc := ⟨.hbm, 494, rfl⟩
abbrev main_c_3 : Ref sig .tc := ⟨.hbm, 495, rfl⟩
abbrev main_v11 : Ref sig .tc := ⟨.hbm, 496, rfl⟩
abbrev main_v12 : Ref sig .tc := ⟨.hbm, 497, rfl⟩
abbrev main_c_4 : Ref sig .tc := ⟨.hbm, 498, rfl⟩
abbrev main_v13 : Ref sig .tc := ⟨.hbm, 499, rfl⟩
abbrev main_v14 : Ref sig .tc := ⟨.hbm, 500, rfl⟩
abbrev main_v15 : Ref sig .tc := ⟨.hbm, 501, rfl⟩
abbrev main_v16 : Ref sig .tc := ⟨.hbm, 502, rfl⟩
abbrev main_v17 : Ref sig .tc := ⟨.hbm, 503, rfl⟩
abbrev main_v18 : Ref sig .tc := ⟨.hbm, 504, rfl⟩

abbrev nD : Nat := 1
abbrev τ : Topo := Topo.v7x

variable {F : FTy → Type} [FloatOps F]
-- ==== Proof.Table.lean ====
/-
  The group order as a table of eight words. Both programs build it alike: seven positions sorted by seven random keys,
  then the word 7. Whatever the keys are, each entry is below 8: sorting the positions only permutes them.
-/
module

public import Idealize.ShloMosaic.Lib.Pipeline.Value
public import Idealize.ShloMosaic.Lib.SortFacts
public import Idealize.ShloMosaic.Lib.Pointwise

@[expose] public section

noncomputable section

namespace Cert.Order

open Idealize.ShloMosaic

/-- The vectors of seven, one and eight words. -/
abbrev Seven : Shape := ⟨1, ![7]⟩
abbrev One : Shape := ⟨1, ![1]⟩
abbrev Eight : Shape := ⟨1, ![8]⟩

/-- The positions 0 … 6 sorted by the keys `K`, under any comparator. -/
def sorted (cmp : BitVec 32 × BitVec 32 → BitVec 32 × BitVec 32 → BitVec 1) (K : Seven.Idx → BitVec 32) :
    Seven.Idx → BitVec 32 :=
  (Host.sort2 Seven 0 cmp K (iotaInDim Seven 32 0)).2

/-- A sorted position is still a position below 7. -/
theorem sorted_lt (cmp : BitVec 32 × BitVec 32 → BitVec 32 × BitVec 32 → BitVec 1) (K : Seven.Idx → BitVec 32)
    (j : Seven.Idx) : (sorted cmp K j).toNat < 7 := by
  have h : ∀ i : Seven.Idx, (iotaInDim Seven 32 0 i).toNat < 7 := fun i => by
    have hi : (i 0).val < 7 := (i 0).isLt
    simp only [iotaInDim, BitVec.toNat_ofNat]
    omega
  unfold sorted Host.sort2
  exact h _

/-- The table that a vector of seven words and one further word make. -/
def table (hc : Shape.Concatenates [Seven, One] Eight 0) (a : Seven.Idx → BitVec 32) (b : One.Idx → BitVec 32) :
    Eight.Idx → BitVec 32 :=
  concatenate Eight 0 [⟨Seven, a⟩, ⟨One, b⟩] hc

/-- Each entry of a table made of words below 8 is below 8. -/
theorem table_lt (hc : Shape.Concatenates [Seven, One] Eight 0) (a : Seven.Idx → BitVec 32) (b : One.Idx → BitVec 32)
    (ha : ∀ i, (a i).toNat < 8) (hb : ∀ i, (b i).toNat < 8) (j : Eight.Idx) : (table hc a b j).toNat < 8 := by
  unfold table
  refine concatenate_forall (P := fun w : BitVec 32 => w.toNat < 8) Eight 0 [⟨Seven, a⟩, ⟨One, b⟩] hc ?_ j
  intro p hp i
  rcases List.mem_cons.mp hp with rfl | hp
  · exact ha i
  · rcases List.mem_cons.mp hp with rfl | hp
    · exact hb i
    · exact absurd hp List.not_mem_nil

end Cert.Order

end
-- ==== Proof.KernelIdealTable.lean ====
/-
  The prefetched table of the idealized kernel: what the host lines before the region leave in it, and that every
  entry names one of the eight groups, so that each block which the table selects lies inside the array.
-/
module

public import proofs.«01_k».proof.Proof.Gen.KernelIdeal.Frame
public import proofs.«01_k».proof.Proof.Table
public import Idealize.ShloMosaic.Lib.StableHlo.RunRead
public import Idealize.ShloMosaic.Lib.Claim

@[expose] public section

set_option maxRecDepth 16384

noncomputable section

namespace Cert.KernelIdeal.Hand

open Idealize.ShloMosaic Idealize.ShloMosaic.TcCoe Cert.KernelIdeal Cert.KernelIdeal.Gen

variable {F : FTy → Type} [FloatOps F]
variable (m : (ℓ : Loc nD τ sig) → Buf (Elt F) ℓ)

/-- The host lines up to the sorted positions, without the last one, which lays the word 7 behind them. -/
abbrev lines : List (HloOp τ sig (Elt F)) := List.flatten [hostOps0, hostOps0_1]

/-- The table is the sorted positions followed by the word 7, as the lines before it leave both. -/
theorem V_table (c : Dev nD) :
    V m c main_v9 = Order.table concatenates_S7_S1_S8_d0 (StableHlo.after lines (fun b => m (c, b)) main_v8)
      (StableHlo.after lines (fun b => m (c, b)) main_c) := by
  have e : List.flatten [hostOps0 (F := F), hostOps0_1, hostOps0_2] = lines ++ hostOps0_2 := by
    simp only [lines, List.flatten_cons, List.flatten_nil, List.append_nil, List.append_assoc]
  show StableHlo.after (List.flatten [hostOps0, hostOps0_1, hostOps0_2]) (fun b => m (c, b)) _ = _
  rw [e, StableHlo.after_append]
  generalize StableHlo.after (lines (F := F)) (fun b => m (c, b)) = W
  after_results_simp
  rfl

/-- The seven words sorted are positions below 7, whatever the keys. -/
theorem lines_v8_lt (V : Valuation τ sig (Elt F)) (j : S7.Idx) :
    ((StableHlo.after lines V main_v8 : S7.Idx → BitVec 32) j).toNat < 7 := by
  simp only [StableHlo.readAfter]
  erw [StableHlo.binary_result']
  generalize StableHlo.upto _ _ _ (Proc.devRef .tc main_call0_v17) = K
  simp only [StableHlo.readUpto, StableHlo.nullary_result']
  exact Order.sorted_lt comparator_i32_i32_d0 K j

/-- The further word is 7. -/
theorem lines_c (V : Valuation τ sig (Elt F)) :
    (StableHlo.after lines V main_c : S1.Idx → BitVec 32) = constantI S1 32 7#32 := by
  simp only [StableHlo.readAfter, StableHlo.nullary_result']

/-- Each entry of the table names a group. -/
theorem V_table_lt (c : Dev nD) (j : S8.Idx) : ((V m c main_v9 : S8.Idx → BitVec 32) j).toNat < 8 := by
  rw [V_table]
  refine Order.table_lt _ _ _ (fun i => (lines_v8_lt _ i).trans (by decide)) (fun i => ?_) j
  rw [lines_c]
  show (7#32).toNat < 8
  decide

/-- The entry that the first index map reads at a grid point. -/
abbrev entry (pf : pre0.Contents (Elt F)) (i : grid0.Coords) : BitVec 32 :=
  pf.at 0 (Rect.unit (s := S8) (k0_off1 i) S1.size (k0_off1_inb i)) numel1_S1

/-- The input block of a grid point: its batch member, the group that its entry names, and the third coordinate. -/
theorem map_input (i : grid0.Coords) :
    cc0_transform_0 k0_off1_inb numel1_S1 (tbl m) i = ![(i 0).val, (entry (tbl m) i).toNat, (i 2).val, 0] := by
  have h0 : (i 0).val < 4 := (i 0).isLt
  have h2 : (i 2).val < 1 := (i 2).isLt
  have e0 : (BitVec.ofNat 32 (i 0).val).toNat = (i 0).val := by simp only [BitVec.toNat_ofNat]; omega
  have e2 : (BitVec.ofNat 32 (i 2).val).toNat = (i 2).val := by simp only [BitVec.toNat_ofNat]; omega
  show ![(BitVec.ofNat 32 (i 0).val).toNat, (entry (tbl m) i).toNat, (BitVec.ofNat 32 (i 2).val).toNat, 0] = _
  rw [e0, e2]

/-- Every block which the table selects lies inside the array. -/
theorem ok : Ok m := by
  intro i
  have h : (entry (tbl m) i).toNat < 8 := V_table_lt m 0 _
  have h0 : (i 0).val < 4 := (i 0).isLt
  have h2 : (i 2).val < 1 := (i 2).isLt
  refine ⟨fun a => ?_, Or.inl rfl⟩
  rw [map_input]
  fin_cases a
  · show ((i 0).val + 1) * 1 ≤ 4; omega
  · show ((entry (tbl m) i).toNat + 1) * 48 ≤ 384; omega
  · show ((i 2).val + 1) * 224 ≤ 224; omega
  · show (0 + 1) * 224 ≤ 224; omega

end Cert.KernelIdeal.Hand

end
-- ==== Proof.Straight.lean ====
/-
  A program text that is a straight line of host operations, with that line. The line is built along the text: one
  operation in front of a line, or one line behind another.
-/
module

public import Idealize.ShloMosaic.Lib.StableHlo.Run

@[expose] public section

noncomputable section

namespace Cert

open Idealize.ShloMosaic Idealize.ShloMosaic.TcCoe Idealize.ShloMosaic.StableHlo Idealize.SL.Sem

variable {nD : ℕ} {τ : Topo} {sig : RefSig} {Val : EltTy → Type} {Λ : Labels}

/-- A line of operations which the text `p` runs, each on device buffers and each determining what it writes. -/
structure Straight (p : Prog (TpuEff nD τ sig Val Λ .tc) PUnit) where
  /-- The operations, in order. -/
  line : List (HloOp τ sig Val)
  /-- The text runs them. -/
  runs : p = seq line
  /-- They touch device buffers only. -/
  onDevice : ∀ op ∈ line, op.bufs ⊆ tcRefs τ sig
  /-- They determine what they write. -/
  settled : ∀ op ∈ line, op.fresh = ∅

/-- The empty text. -/
def Straight.done : Straight (nD := nD) (τ := τ) (sig := sig) (Val := Val) (Λ := Λ) (pure ⟨⟩) :=
  ⟨[], rfl, fun _ h => absurd h List.not_mem_nil, fun _ h => absurd h List.not_mem_nil⟩

/-- One operation, then a straight text. -/
def Straight.step {op : HloOp τ sig Val} {k : PUnit → Prog (TpuEff nD τ sig Val Λ .tc) PUnit} (hb : op.bufs ⊆ tcRefs τ sig)
    (hf : op.fresh = ∅) (s : Straight (k ⟨⟩)) : Straight ((hlo rfl op fun _ => .ret (⟨⟩ : PUnit)) >>= k) where
  line := op :: s.line
  runs := by rw [seq, ← s.runs]
  onDevice o ho := by
    rcases List.mem_cons.mp ho with rfl | ho
    · exact hb
    · exact s.onDevice o ho
  settled o ho := by
    rcases List.mem_cons.mp ho with rfl | ho
    · exact hf
    · exact s.settled o ho

/-- One operation alone. -/
def Straight.one {op : HloOp τ sig Val} (hb : op.bufs ⊆ tcRefs τ sig) (hf : op.fresh = ∅) :
    Straight (nD := nD) (Λ := Λ) (hlo rfl op fun _ => .ret (⟨⟩ : PUnit)) where
  line := [op]
  runs := rfl
  onDevice o ho := by
    obtain rfl := List.mem_singleton.mp ho
    exact hb
  settled o ho := by
    obtain rfl := List.mem_singleton.mp ho
    exact hf

/-- A straight text, then another. -/
def Straight.andThen {p : Prog (TpuEff nD τ sig Val Λ .tc) PUnit} {k : PUnit → Prog (TpuEff nD τ sig Val Λ .tc) PUnit}
    (s : Straight p) (t : Straight (k ⟨⟩)) : Straight (p >>= k) where
  line := s.line ++ t.line
  runs := by rw [seq_append, ← s.runs, ← t.runs]
  onDevice o ho := (List.mem_append.mp ho).elim (s.onDevice o) (t.onDevice o)
  settled o ho := (List.mem_append.mp ho).elim (s.settled o) (t.settled o)

end Cert

end
-- ==== Proof.RefLine.lean ====
/-
  The reference as a straight line of host operations: each function's text, then the main program's.
-/
module

public import proofs.«01_k».proof.Proof.Gen.ReferenceIdeal
public import proofs.«01_k».proof.Proof.Straight

@[expose] public section

set_option maxRecDepth 16384
set_option maxHeartbeats 4000000

noncomputable section

namespace Cert.ReferenceIdeal.Hand

open Idealize.ShloMosaic Idealize.ShloMosaic.TcCoe Idealize.ShloMosaic.StableHlo Cert.ReferenceIdeal Cert.ReferenceIdeal.Gen

variable {F : FTy → Type} [FloatOps F]

/-- The mixer of two words, statements 1 to 60. -/
def mixA0 (a b : TRef sig ⟨S_, .i32⟩) (c d : TRef sig ⟨S2, .i32⟩) (φ : fn_threefry2x32.Bufs) :
    Straight (fn_threefry2x32.body_part0 (F := F) a b c d φ) := by
  delta fn_threefry2x32.body_part0
  repeat' first
    | with_reducible exact Straight.done
    | with_reducible refine Straight.step ?_ rfl ?_
    | with_reducible refine Straight.one ?_ rfl
    | with_reducible exact nullary_bufs_sub _ _ _
    | with_reducible exact unary_bufs_sub _ _ _ _ _
    | with_reducible exact binary_bufs_sub _ _ _ _ _ _ _
    | with_reducible exact reshape_bufs_sub _ _ _ _ _ _

/-- The mixer of two words, statements 61 to 120. -/
def mixA1 (a b : TRef sig ⟨S_, .i32⟩) (c d : TRef sig ⟨S2, .i32⟩) (φ : fn_threefry2x32.Bufs) :
    Straight (fn_threefry2x32.body_part1 (F := F) a b c d φ) := by
  delta fn_threefry2x32.body_part1
  repeat' first
    | with_reducible exact Straight.done
    | with_reducible refine Straight.step ?_ rfl ?_
    | with_reducible refine Straight.one ?_ rfl
    | with_reducible exact nullary_bufs_sub _ _ _
    | with_reducible exact unary_bufs_sub _ _ _ _ _
    | with_reducible exact binary_bufs_sub _ _ _ _ _ _ _
    | with_reducible exact reshape_bufs_sub _ _ _ _ _ _

/-- The mixer of two words, statements 121 to 180. -/
def mixA2 (a b : TRef sig ⟨S_, .i32⟩) (c d : TRef sig ⟨S2, .i32⟩) (φ : fn_threefry2x32.Bufs) :
    Straight (fn_threefry2x32.body_part2 (F := F) a b c d φ) := by
  delta fn_threefry2x32.body_part2
  repeat' first
    | with_reducible exact Straight.done
    | with_reducible refine Straight.step ?_ rfl ?_
    | with_reducible refine Straight.one ?_ rfl
    | with_reducible exact nullary_bufs_sub _ _ _
    | with_reducible exact unary_bufs_sub _ _ _ _ _
    | with_reducible exact binary_bufs_sub _ _ _ _ _ _ _
    | with_reducible exact reshape_bufs_sub _ _ _ _ _ _

/-- The mixer of two words, statements 181 to 223. -/
def mixA3 (a b : TRef sig ⟨S_, .i32⟩) (c d : TRef sig ⟨S2, .i32⟩) (φ : fn_threefry2x32.Bufs) :
    Straight (fn_threefry2x32.body_part3 (F := F) a b c d φ) := by
  delta fn_threefry2x32.body_part3
  repeat' first
    | with_reducible exact Straight.done
    | with_reducible refine Straight.step ?_ rfl ?_
    | with_reducible refine Straight.one ?_ rfl
    | with_reducible exact nullary_bufs_sub _ _ _
    | with_reducible exact unary_bufs_sub _ _ _ _ _
    | with_reducible exact binary_bufs_sub _ _ _ _ _ _ _
    | with_reducible exact reshape_bufs_sub _ _ _ _ _ _

/-- The mixer of two words. -/
def mixA (a b : TRef sig ⟨S_, .i32⟩) (c d : TRef sig ⟨S2, .i32⟩) (φ : fn_threefry2x32.Bufs) :
    Straight (fn_threefry2x32.body (F := F) a b c d φ) := by
  delta fn_threefry2x32.body
  exact (mixA0 a b c d φ).andThen ((mixA1 a b c d φ).andThen ((mixA2 a b c d φ).andThen (mixA3 a b c d φ)))

/-- The mixer of seven words, statements 1 to 60. -/
def mixB0 (a b : TRef sig ⟨S_, .i32⟩) (c d : TRef sig ⟨S7, .i32⟩) (φ : fn_threefry2x32_0.Bufs) :
    Straight (fn_threefry2x32_0.body_part0 (F := F) a b c d φ) := by
  delta fn_threefry2x32_0.body_part0
  repeat' first
    | with_reducible exact Straight.done
    | with_reducible refine Straight.step ?_ rfl ?_
    | with_reducible refine Straight.one ?_ rfl
    | with_reducible exact nullary_bufs_sub _ _ _
    | with_reducible exact unary_bufs_sub _ _ _ _ _
    | with_reducible exact binary_bufs_sub _ _ _ _ _ _ _
    | with_reducible exact reshape_bufs_sub _ _ _ _ _ _

/-- The mixer of seven words, statements 61 to 120. -/
def mixB1 (a b : TRef sig ⟨S_, .i32⟩) (c d : TRef sig ⟨S7, .i32⟩) (φ : fn_threefry2x32_0.Bufs) :
    Straight (fn_threefry2x32_0.body_part1 (F := F) a b c d φ) := by
  delta fn_threefry2x32_0.body_part1
  repeat' first
    | with_reducible exact Straight.done
    | with_reducible refine Straight.step ?_ rfl ?_
    | with_reducible refine Straight.one ?_ rfl
    | with_reducible exact nullary_bufs_sub _ _ _
    | with_reducible exact unary_bufs_sub _ _ _ _ _
    | with_reducible exact binary_bufs_sub _ _ _ _ _ _ _
    | with_reducible exact reshape_bufs_sub _ _ _ _ _ _

/-- The mixer of seven words, statements 121 to 180. -/
def mixB2 (a b : TRef sig ⟨S_, .i32⟩) (c d : TRef sig ⟨S7, .i32⟩) (φ : fn_threefry2x32_0.Bufs) :
    Straight (fn_threefry2x32_0.body_part2 (F := F) a b c d φ) := by
  delta fn_threefry2x32_0.body_part2
  repeat' first
    | with_reducible exact Straight.done
    | with_reducible refine Straight.step ?_ rfl ?_
    | with_reducible refine Straight.one ?_ rfl
    | with_reducible exact nullary_bufs_sub _ _ _
    | with_reducible exact unary_bufs_sub _ _ _ _ _
    | with_reducible exact binary_bufs_sub _ _ _ _ _ _ _
    | with_reducible exact reshape_bufs_sub _ _ _ _ _ _

/-- The mixer of seven words, statements 181 to 223. -/
def mixB3 (a b : TRef sig ⟨S_, .i32⟩) (c d : TRef sig ⟨S7, .i32⟩) (φ : fn_threefry2x32_0.Bufs) :
    Straight (fn_threefry2x32_0.body_part3 (F := F) a b c d φ) := by
  delta fn_threefry2x32_0.body_part3
  repeat' first
    | with_reducible exact Straight.done
    | with_reducible refine Straight.step ?_ rfl ?_
    | with_reducible refine Straight.one ?_ rfl
    | with_reducible exact nullary_bufs_sub _ _ _
    | with_reducible exact unary_bufs_sub _ _ _ _ _
    | with_reducible exact binary_bufs_sub _ _ _ _ _ _ _
    | with_reducible exact reshape_bufs_sub _ _ _ _ _ _

/-- The mixer of seven words. -/
def mixB (a b : TRef sig ⟨S_, .i32⟩) (c d : TRef sig ⟨S7, .i32⟩) (φ : fn_threefry2x32_0.Bufs) :
    Straight (fn_threefry2x32_0.body (F := F) a b c d φ) := by
  delta fn_threefry2x32_0.body
  exact (mixB0 a b c d φ).andThen ((mixB1 a b c d φ).andThen ((mixB2 a b c d φ).andThen (mixB3 a b c d φ)))

/-- Two keys out of one. -/
def split (a : TRef sig ⟨S2, .i32⟩) (φ : fn_threefry_split.Bufs) : Straight (fn_threefry_split.body (F := F) a φ) := by
  delta fn_threefry_split.body
  repeat' first
    | with_reducible exact Straight.done
    | with_reducible refine Straight.andThen (mixA _ _ _ _ _) ?_
    | with_reducible refine Straight.step ?_ rfl ?_
    | with_reducible refine Straight.one ?_ rfl
    | with_reducible exact nullary_bufs_sub _ _ _
    | with_reducible exact unary_bufs_sub _ _ _ _ _
    | with_reducible exact binary_bufs_sub _ _ _ _ _ _ _
    | with_reducible exact reshape_bufs_sub _ _ _ _ _ _

/-- The shuffle of seven positions. -/
def shuffle (a : TRef sig ⟨S2, .i32⟩) (b : TRef sig ⟨S7, .i32⟩) (φ : fn_shuffle.Bufs) : Straight (fn_shuffle.body (F := F) a b φ) := by
  delta fn_shuffle.body
  repeat' first
    | with_reducible exact Straight.done
    | with_reducible refine Straight.andThen (split _ _) ?_
    | with_reducible refine Straight.andThen (mixB _ _ _ _ _) ?_
    | with_reducible refine Straight.step ?_ rfl ?_
    | with_reducible refine Straight.one ?_ rfl
    | with_reducible exact nullary_bufs_sub _ _ _
    | with_reducible exact unary_bufs_sub _ _ _ _ _
    | with_reducible exact binary_bufs_sub _ _ _ _ _ _ _
    | with_reducible exact reshape_bufs_sub _ _ _ _ _ _

/-- The main program. -/
def whole (d : Dev nD) : Straight (main (F := F) d) := by
  delta main
  repeat' first
    | with_reducible exact Straight.done
    | with_reducible refine Straight.andThen (shuffle _ _ _) ?_
    | with_reducible refine Straight.step ?_ rfl ?_
    | with_reducible refine Straight.one ?_ rfl
    | with_reducible exact nullary_bufs_sub _ _ _
    | with_reducible exact unary_bufs_sub _ _ _ _ _
    | with_reducible exact binary_bufs_sub _ _ _ _ _ _ _
    | with_reducible exact ternary_bufs_sub _ _ _ _ _ _ _ _ _
    | with_reducible exact reshape_bufs_sub _ _ _ _ _ _

end Cert.ReferenceIdeal.Hand

end
-- ==== Proof.Shuffled.lean ====
/-
  The groups of an array's channels taken in the order that a table names: the 384 channels are eight groups of
  forty-eight, and channel `c` of the result is channel `c % 48` of the group that the table's entry `c / 48` names.
-/
module

public import proofs.«01_k».proof.Proof.Table
public import Idealize.ShloMosaic.Lib.ValueIdxCore

@[expose] public section

noncomputable section

namespace Cert.Order

open Idealize.ShloMosaic hiding ix1 ix2 ix4 ix5 eq_ix4
open Idealize.ShloMosaic.ValueIdx

/-- The shape of the argument and of the result. -/
abbrev Arr : Shape := ⟨4, ![4, 384, 224, 224]⟩

/-- The group that the table's entry `g` names (the entries in use are below 8). -/
def group (T : Eight.Idx → BitVec 32) (g : Fin 8) : Fin 8 := ⟨(T (ix1 g)).toNat % 8, Nat.mod_lt _ (by decide)⟩

/-- Where the element at `j` comes from. -/
def source (T : Eight.Idx → BitVec 32) (j : Arr.Idx) : Arr.Idx :=
  have hj : (j 1).val < 384 := (j 1).isLt
  ix4 (j 0 : Fin 4)
    (⟨48 * (group T ⟨(j 1).val / 48, by omega⟩).val + (j 1).val % 48,
      by have := (group T ⟨(j 1).val / 48, by omega⟩).isLt; omega⟩ : Fin 384) (j 2 : Fin 224) (j 3 : Fin 224)

/-- The array with its groups in the table's order. -/
def shuffled {α : Type} (T : Eight.Idx → BitVec 32) (x : Arr.Idx → α) : Arr.Idx → α := fun j => x (source T j)

end Cert.Order

end
-- ==== Proof.RefValue.lean ====
/-
  What the reference's last lines compute from a table of eight words: they view the channels as eight groups of
  forty-eight, take the groups in the table's order and flatten again.
-/
module

public import proofs.«01_k».proof.Proof.Shuffled
public import proofs.«01_k».proof.Proof.Gen.ReferenceIdeal
public import Idealize.ShloMosaic.Lib.Routing.OpsPair

@[expose] public section

set_option maxRecDepth 16384

noncomputable section

namespace Cert.ReferenceIdeal.Hand

open Idealize.ShloMosaic hiding ix1 ix2 ix4 ix5 eq_ix4
open Idealize.ShloMosaic.ValueIdx Cert.ReferenceIdeal Cert.ReferenceIdeal.Gen Cert.Order

variable {α : Type}

/-- The gather takes a group, named by the index word read signed and clamped, and keeps the other coordinates. -/
theorem gather_groups (x : S4x8x48x224x224.Idx → α) (idx : S8x1.Idx → BitVec 32) (n : Fin 4) (g : Fin 8) (k : Fin 48)
    (h w : Fin 224) (b : Fin 8) (hb : min (idx (ix2 g (0 : Fin 1))).toInt.toNat 7 = b.val) :
    Host.gather gather_S4x8x48x224x224_S8x1_S4x8x48x224x224_0234_1_n_n_1_1_4148224224 x idx (ix5 n g k h w)
      = x (ix5 n b k h w) := by
  unfold Host.gather
  refine congrArg x (funext fun a => Fin.ext ?_)
  fin_cases a
  · show _ = n.val
    exact Nat.zero_add _
  · have e : gather_S4x8x48x224x224_S8x1_S4x8x48x224x224_0234_1_n_n_1_1_4148224224.siIdx (ix5 n g k h w) ⟨0, by decide⟩
        = ix2 g (0 : Fin 1) := funext fun b => by fin_cases b <;> rfl
    rw [← e] at hb
    exact hb
  · show _ = k.val
    exact Nat.zero_add _
  · show _ = h.val
    exact Nat.zero_add _
  · show _ = w.val
    exact Nat.zero_add _

/-- The index words as the reference prepares them: a negative one would count from the end. -/
def wrapped (T : S8.Idx → BitVec 32) : S8x1.Idx → BitVec 32 :=
  broadcastInDim S8x1 ![0] bcast_S8_S8x1_0
    (select (cmpi .slt T (broadcastInDim S8 ![] bcast_S_S8 (constantI S_ 32 0#32)))
      (addi T (broadcastInDim S8 ![] bcast_S_S8 (constantI S_ 32 8#32))) T)

/-- None of the table's words is negative, so each stays what it is. -/
theorem wrapped_eq (T : S8.Idx → BitVec 32) (hT : ∀ i, (T i).toNat < 8) (g : Fin 8) :
    wrapped T (ix2 g (0 : Fin 1)) = T (ix1 g) := by
  unfold wrapped
  rw [broadcastInDim_apply (k := ix1 g) (hk := fun a => by fin_cases a; rfl)]
  have h := hT (ix1 g)
  exact Routing.wrap_of_lt (T (ix1 g)) _ (by omega)

/-- The reference's last lines, as one function of the table and the argument. -/
def regrouped (T : S8.Idx → BitVec 32) (x : S4x384x224x224.Idx → α) : S4x384x224x224.Idx → α :=
  shapeCast S4x384x224x224
    (Host.gather gather_S4x8x48x224x224_S8x1_S4x8x48x224x224_0234_1_n_n_1_1_4148224224
      (shapeCast S4x8x48x224x224 x shapeCasts_S4x384x224x224_S4x8x48x224x224) (wrapped T))
    shapeCasts_S4x8x48x224x224_S4x384x224x224

/-- They permute the groups. -/
theorem regrouped_eq (T : S8.Idx → BitVec 32) (hT : ∀ i, (T i).toNat < 8) (x : S4x384x224x224.Idx → α) :
    regrouped T x = shuffled T x := by
  funext j
  obtain ⟨n, c, h, w, rfl⟩ : ∃ (n : Fin 4) (c : Fin 384) (h w : Fin 224), j = ix4 n c h w := ⟨_, _, _, _, eq_ix4 j⟩
  have hc : c.val < 384 := c.isLt
  have hg : c.val / 48 < 8 := by omega
  have hk : c.val % 48 < 48 := by omega
  have hw := hT (ix1 (⟨c.val / 48, hg⟩ : Fin 8))
  have hb : min (wrapped T (ix2 (⟨c.val / 48, hg⟩ : Fin 8) (0 : Fin 1))).toInt.toNat 7 = (group T ⟨c.val / 48, hg⟩).val := by
    rw [wrapped_eq T hT, BitVec.toInt_eq_toNat_of_lt (by omega)]
    show min ((T _).toNat : ℤ).toNat 7 = (T _).toNat % 8
    omega
  unfold regrouped
  rw [shapeCast_apply (k := ix5 n (⟨c.val / 48, hg⟩ : Fin 8) (⟨c.val % 48, hk⟩ : Fin 48) h w), gather_groups _ _ _ _ _ _ _ _ hb,
    shapeCast_apply (k := source T (ix4 n c h w))]
  · rfl
  · rw [Shape.rowMajor_val_four, Shape.rowMajor_val_five]
    show ((n.val * 384 + (48 * (group T ⟨c.val / 48, hg⟩).val + c.val % 48)) * 224 + h.val) * 224 + w.val
      = (((n.val * 8 + (group T ⟨c.val / 48, hg⟩).val) * 48 + c.val % 48) * 224 + h.val) * 224 + w.val
    ring
  · rw [Shape.rowMajor_val_four, Shape.rowMajor_val_five]
    show (((n.val * 8 + c.val / 48) * 48 + c.val % 48) * 224 + h.val) * 224 + w.val
      = ((n.val * 384 + c.val) * 224 + h.val) * 224 + w.val
    omega

end Cert.ReferenceIdeal.Hand

end
-- ==== Proof.RefRun.lean ====
/-
  The reference's run: a straight line of host operations, so its result is what the line computes from the argument,
  and nothing else of the machine changes that the claims speak of.
-/
module

public import proofs.«01_k».proof.Proof.RefLine
public import proofs.«01_k».proof.Proof.RefValue
public import Idealize.ShloMosaic.Lib.StableHlo.RunRead
public import Idealize.ShloMosaic.Lib.Quiescent

@[expose] public section

set_option maxRecDepth 16384

noncomputable section

namespace Cert.ReferenceIdeal.Hand

open Idealize.ShloMosaic Idealize.ShloMosaic.TcCoe Idealize.ShloMosaic.StableHlo Idealize.SL.Sem
open Cert.ReferenceIdeal Cert.ReferenceIdeal.Gen

variable {F : FTy → Type} [FloatOps F]

/-- The lines which compute the group order. -/
abbrev orderLines (d : Dev nD) : List (HloOp τ sig (Elt F)) := (whole (F := F) d).line.take 492

/-- The lines after them, which apply it. -/
def lastLines : List (HloOp τ sig (Elt F)) :=
  [ binary main_v8 main_c main_v9 (fun a b => concatenate S8 0 [⟨S7, a⟩, ⟨S1, b⟩] concatenates_S7_S1_S8_d0),
    reshape main_arg0 main_v10 (rfl : (.f32 : EltTy) = .f32) shapeCasts_S4x384x224x224_S4x8x48x224x224,
    nullary main_c_3 (constantI S_ 32 0#32),
    unary main_c_3 main_v11 (broadcastInDim S8 ![] bcast_S_S8),
    binary main_v9 main_v11 main_v12 (cmpi .slt),
    nullary main_c_4 (constantI S_ 32 8#32),
    unary main_c_4 main_v13 (broadcastInDim S8 ![] bcast_S_S8),
    binary main_v9 main_v13 main_v14 addi,
    ternary main_v12 main_v14 main_v9 main_v15 select,
    unary main_v15 main_v16 (broadcastInDim S8x1 ![0] bcast_S8_S8x1_0),
    binary main_v10 main_v16 main_v17 (fun x i => Host.gather gather_S4x8x48x224x224_S8x1_S4x8x48x224x224_0234_1_n_n_1_1_4148224224 x i),
    reshape main_v17 main_v18 (rfl : (.f32 : EltTy) = .f32) shapeCasts_S4x8x48x224x224_S4x384x224x224 ]

/-- The two parts are the whole line. -/
theorem whole_line (d : Dev nD) : (whole (F := F) d).line = orderLines d ++ lastLines := by
  have e : (whole (F := F) d).line.drop 492 = lastLines := rfl
  rw [← e]
  exact (List.take_append_drop _ _).symm

/-- What the last lines leave in the result. -/
theorem lastLines_result (W : Valuation τ sig (Elt F)) :
    after lastLines W main_v18
      = regrouped (Order.table concatenates_S7_S1_S8_d0 (W main_v8) (W main_c)) (W main_arg0) := by
  unfold lastLines
  after_reads_simp
  rfl

/-- The last lines leave the argument alone. -/
theorem lastLines_arg0 (W : Valuation τ sig (Elt F)) : after lastLines W main_arg0 = W main_arg0 := by
  unfold lastLines
  after_reads_simp

end Cert.ReferenceIdeal.Hand

end
-- ==== Proof.SameLines.lean ====
/-
  Two programs that run the same host operations in the same order. Each keeps its values in buffers of its own, value
  number `n` of the one at `p n` and of the other at `q n`. If the values numbered below `k` agree and the two next
  operations apply one function to values of the same numbers, the values numbered up to `k` agree.
-/
module

public import Idealize.ShloMosaic.Lib.StableHlo.Run

@[expose] public section

noncomputable section

namespace Cert.SameLines

open Idealize.ShloMosaic Idealize.ShloMosaic.TcCoe Idealize.ShloMosaic.StableHlo

variable {τ τ' : Topo} {sig sig' : RefSig} {Val : EltTy → Type}
variable (p : ℕ → Ref sig .tc) (q : ℕ → Ref sig' .tc)

/-- The values numbered below `k` agree. -/
def Agree (k : ℕ) (V : Valuation τ sig Val) (W : Valuation τ' sig' Val) : Prop :=
  ∀ i, i < k → HEq (V (Proc.devRef .tc (p i))) (W (Proc.devRef .tc (q i)))

/-- Run from agreeing values below `k`, the line `l` and equally many operations of `l'` leave agreeing values below `n`,
and those of `l'` write the values from `k` to `n` only. -/
structure Same (k n : ℕ) (l : List (HloOp τ sig Val)) (l' : List (HloOp τ' sig' Val)) : Prop where
  agree : ∀ V W, Agree p q k V W → Agree p q n (after l V) (after (l'.take l.length) W)
  rest : ∀ W r, (∀ i, k ≤ i → i < n → r ≠ q i) → after (l'.take l.length) W (Proc.devRef .tc r) = W (Proc.devRef .tc r)

/-- The buffers of the values numbered below `n` are different ones, in both programs. -/
def Apart (n : ℕ) : Prop := ∀ i j, i < j → j < n → p i ≠ p j ∧ q i ≠ q j

/-- Nothing left to run. -/
theorem Same.nil {k n : ℕ} (e : k = n) (l' : List (HloOp τ' sig' Val)) : Same (τ := τ) p q k n [] l' :=
  ⟨fun _ _ h => e ▸ h, fun _ _ _ => rfl⟩

variable {p q}

/-- The operations `op` and `op'` write value `k` and nothing else, and agreeing values below `k` make the two agree. -/
structure Pair (p : ℕ → Ref sig .tc) (q : ℕ → Ref sig' .tc) (k : ℕ) (op : HloOp τ sig Val) (op' : HloOp τ' sig' Val) : Prop where
  keeps : ∀ V r, r ≠ p k → op.result V (Proc.devRef .tc r) = V (Proc.devRef .tc r)
  keeps' : ∀ W r, r ≠ q k → op'.result W (Proc.devRef .tc r) = W (Proc.devRef .tc r)
  agrees : ∀ V W, Agree p q k V W → HEq (op.result V (Proc.devRef .tc (p k))) (op'.result W (Proc.devRef .tc (q k)))

/-- One operation more, which writes value `k` in each program. -/
theorem Same.cons {k n : ℕ} {op : HloOp τ sig Val} {op' : HloOp τ' sig' Val} {l : List (HloOp τ sig Val)}
    {l' : List (HloOp τ' sig' Val)} (ha : Apart p q n) (hk : k < n) (ht : Same p q (k + 1) n l l')
    (hp : Pair p q k op op') : Same p q k n (op :: l) (op' :: l') := by
  refine ⟨fun V W h => ht.agree (op.result V) (op'.result W) fun i hi => ?_, fun W r h => ?_⟩
  · rcases Nat.lt_succ_iff_lt_or_eq.mp hi with hi | rfl
    · rw [hp.keeps V (p i) (ha i k hi hk).1, hp.keeps' W (q i) (ha i k hi hk).2]
      exact h i hi
    · exact hp.agrees V W h
  · exact (ht.rest (op'.result W) r fun i hi => h i (Nat.le_of_succ_le hi)).trans (hp.keeps' W r (h k le_rfl hk))

/-- A constant. -/
theorem Pair.nullary {k : ℕ} {y : Ref sig .tc} {y' : Ref sig' .tc} {v : y.ty.Contents Val} {v' : y'.ty.Contents Val}
    {hy hy'} (ey : y = p y.idx.val) (ey' : y' = q y.idx.val) (e : y.idx.val = k) (hf : HEq v v') :
    Pair p q k (nullary (τ := τ) (Val := Val) y v hy) (nullary (τ := τ') (Val := Val) y' v' hy') := by
  rw [e] at ey ey'
  clear e
  subst ey ey'
  refine Pair.mk (fun V r h => nullary_result_ne _ _ _ _ h) (fun V r h => nullary_result_ne _ _ _ _ h) (fun V W _ => ?_)
  rw [nullary_result', nullary_result']
  exact hf

/-- Equal functions of equal arguments, the types equal too. -/
theorem heq_app {A A' B B' : Type} (eA : A = A') (eB : B = B') {f : A → B} {f' : A' → B'} {x : A} {x' : A'}
    (hf : HEq f f') (hx : HEq x x') : HEq (f x) (f' x') := by
  subst eA eB
  cases hf
  cases hx
  rfl

/-- Equal functions of two equal arguments. -/
theorem heq_app₂ {A A' B B' C C' : Type} (eA : A = A') (eB : B = B') (eC : C = C') {f : A → B → C} {f' : A' → B' → C'}
    {x : A} {x' : A'} {z : B} {z' : B'} (hf : HEq f f') (hx : HEq x x') (hz : HEq z z') : HEq (f x z) (f' x' z') := by
  subst eA eB eC
  cases hf
  cases hx
  cases hz
  rfl

/-- A function of one value. -/
theorem Pair.unary {k : ℕ} {x y : Ref sig .tc} {x' y' : Ref sig' .tc} {f : x.ty.Contents Val → y.ty.Contents Val}
    {f' : x'.ty.Contents Val → y'.ty.Contents Val} {hx hy hx' hy'} (ex : x = p x.idx.val) (ex' : x' = q x.idx.val) (ey : y = p y.idx.val) (ey' : y' = q y.idx.val) (e : y.idx.val = k)
    (hi : x.idx.val < y.idx.val) (tx : x.ty = x'.ty) (ty : y.ty = y'.ty) (hf : HEq f f') :
    Pair p q k (unary (τ := τ) (Val := Val) x y f hx hy) (unary (τ := τ') (Val := Val) x' y' f' hx' hy') := by
  rw [e] at ey ey' hi
  clear e
  revert hi ex ex'
  generalize x.idx.val = i
  intro ex ex' hi
  subst ex ex' ey ey'
  refine Pair.mk (fun V r h => unary_result_ne _ _ _ _ _ _ h) (fun V r h => unary_result_ne _ _ _ _ _ _ h) (fun V W h => ?_)
  rw [unary_result', unary_result']
  exact heq_app (congrArg (fun T : BufTy => T.Contents Val) tx) (congrArg (fun T : BufTy => T.Contents Val) ty) hf (h i hi)

/-- A function of two values. -/
theorem Pair.binary {k : ℕ} {a b y : Ref sig .tc} {a' b' y' : Ref sig' .tc}
    {f : a.ty.Contents Val → b.ty.Contents Val → y.ty.Contents Val}
    {f' : a'.ty.Contents Val → b'.ty.Contents Val → y'.ty.Contents Val} {h₁ h₂ h₃ h₁' h₂' h₃'}
    (ea : a = p a.idx.val) (ea' : a' = q a.idx.val) (eb : b = p b.idx.val) (eb' : b' = q b.idx.val)
    (ey : y = p y.idx.val) (ey' : y' = q y.idx.val) (e : y.idx.val = k) (hi : a.idx.val < y.idx.val)
    (hj : b.idx.val < y.idx.val) (ta : a.ty = a'.ty) (tb : b.ty = b'.ty) (ty : y.ty = y'.ty) (hf : HEq f f') :
    Pair p q k (binary (τ := τ) (Val := Val) a b y f h₁ h₂ h₃) (binary (τ := τ') (Val := Val) a' b' y' f' h₁' h₂' h₃') := by
  rw [e] at ey ey' hi hj
  clear e
  revert hi hj ea ea' eb eb'
  generalize a.idx.val = i
  generalize b.idx.val = j
  intro ea ea' eb eb' hi hj
  subst ea ea' eb eb' ey ey'
  refine Pair.mk (fun V r h => binary_result_ne _ _ _ _ _ _ _ _ h) (fun V r h => binary_result_ne _ _ _ _ _ _ _ _ h) (fun V W h => ?_)
  rw [binary_result', binary_result']
  exact heq_app₂ (congrArg (fun T : BufTy => T.Contents Val) ta) (congrArg (fun T : BufTy => T.Contents Val) tb)
    (congrArg (fun T : BufTy => T.Contents Val) ty) hf (h i hi) (h j hj)

/-- Equal contents relabelled alike are equal, the types equal too. -/
theorem heq_relabel {T T' U U' : BufTy} (eT : T = T') (eU : U = U') (he : T.elt = U.elt) (he' : T'.elt = U'.elt)
    (hn : T.shape.ShapeCasts U.shape) (hn' : T'.shape.ShapeCasts U'.shape) {x : T.Contents Val} {x' : T'.Contents Val}
    (hx : HEq x x') :
    HEq (fun i => he ▸ shapeCast U.shape x hn i : U.Contents Val) (fun i => he' ▸ shapeCast U'.shape x' hn' i : U'.Contents Val) := by
  subst eT eU
  cases hx
  rfl

/-- The same elements under another shape. -/
theorem Pair.reshape {k : ℕ} {x y : Ref sig .tc} {x' y' : Ref sig' .tc} {he hn hx hy he' hn' hx' hy'}
    (ex : x = p x.idx.val) (ex' : x' = q x.idx.val) (ey : y = p y.idx.val) (ey' : y' = q y.idx.val) (e : y.idx.val = k)
    (hi : x.idx.val < y.idx.val) (tx : x.ty = x'.ty) (ty : y.ty = y'.ty) :
    Pair p q k (reshape (τ := τ) (Val := Val) x y he hn hx hy) (reshape (τ := τ') (Val := Val) x' y' he' hn' hx' hy') := by
  rw [e] at ey ey' hi
  clear e
  revert hi ex ex'
  generalize x.idx.val = i
  intro ex ex' hi
  subst ex ex' ey ey'
  refine Pair.mk (fun V r h => reshape_result_ne _ _ _ _ _ _ _ h) (fun V r h => reshape_result_ne _ _ _ _ _ _ _ h) (fun V W h => ?_)
  rw [reshape_result', reshape_result']
  exact heq_relabel tx ty _ _ _ _ (h i hi)

/-- The first operation is a constant. -/
theorem firstNullary {k : ℕ} {y : Ref sig .tc} {v : y.ty.Contents Val} {hy} {op' : HloOp τ' sig' Val}
    (h : Pair p q k (nullary (τ := τ) (Val := Val) y v hy) op') : Pair p q k (nullary (τ := τ) (Val := Val) y v hy) op' := h

/-- The first operation is a function of one value. -/
theorem firstUnary {k : ℕ} {x y : Ref sig .tc} {f : x.ty.Contents Val → y.ty.Contents Val} {hx hy} {op' : HloOp τ' sig' Val}
    (h : Pair p q k (unary (τ := τ) (Val := Val) x y f hx hy) op') : Pair p q k (unary (τ := τ) (Val := Val) x y f hx hy) op' := h

/-- The first operation is a function of two values. -/
theorem firstBinary {k : ℕ} {a b y : Ref sig .tc} {f : a.ty.Contents Val → b.ty.Contents Val → y.ty.Contents Val} {h₁ h₂ h₃} {op' : HloOp τ' sig' Val}
    (h : Pair p q k (binary (τ := τ) (Val := Val) a b y f h₁ h₂ h₃) op') : Pair p q k (binary (τ := τ) (Val := Val) a b y f h₁ h₂ h₃) op' := h

/-- The first operation is a relabelling. -/
theorem firstReshape {k : ℕ} {x y : Ref sig .tc} {he hn hx hy} {op' : HloOp τ' sig' Val}
    (h : Pair p q k (reshape (τ := τ) (Val := Val) x y he hn hx hy) op') : Pair p q k (reshape (τ := τ) (Val := Val) x y he hn hx hy) op' := h

end Cert.SameLines

end
-- ==== Proof.SameTable.lean ====
/-
  The two programs compute the group order by the same operations in the same order, so they leave the same words in it.
-/
module

public import proofs.«01_k».proof.Proof.KernelIdealTable
public import proofs.«01_k».proof.Proof.RefRun
public import proofs.«01_k».proof.Proof.SameLines
public import proofs.«01_k».proof.Proof.Shuffled

@[expose] public section

set_option maxRecDepth 16384
set_option maxHeartbeats 40000000

noncomputable section

namespace Cert.Joint

open Idealize.ShloMosaic Idealize.ShloMosaic.TcCoe Idealize.ShloMosaic.StableHlo Cert.SameLines

variable {F : FTy → Type} [FloatOps F]

/-- Value number `i` of the kernel's program. -/
abbrev kval (i : ℕ) : Ref KernelIdeal.sig .tc := ⟨.hbm, Fin.ofNat _ i, rfl⟩
/-- Value number `i` of the reference. -/
abbrev rval (i : ℕ) : Ref ReferenceIdeal.sig .tc := ⟨.hbm, Fin.ofNat _ i, rfl⟩

/-- Values of different numbers below 493 have different buffers. -/
theorem apart : Apart kval rval 493 := by
  intro i j hij hj
  refine ⟨fun h => ?_, fun h => ?_⟩
  · have h' : i % 494 = j % 494 := congrArg (fun r : Ref KernelIdeal.sig .tc => r.idx.val) h
    rw [Nat.mod_eq_of_lt (by omega), Nat.mod_eq_of_lt (by omega)] at h'
    omega
  · have h' : i % 505 = j % 505 := congrArg (fun r : Ref ReferenceIdeal.sig .tc => r.idx.val) h
    rw [Nat.mod_eq_of_lt (by omega), Nat.mod_eq_of_lt (by omega)] at h'
    omega

/-- Line by line the two programs compute the same values. -/
theorem same (d : Dev ReferenceIdeal.nD) :
    Same kval rval 1 493 (KernelIdeal.Hand.lines (F := F)) (ReferenceIdeal.Hand.whole (F := F) d).line := by
  iterate 492 refine Same.cons apart (by decide) ?_ ?_
  · exact Same.nil _ _ rfl _
  all_goals first
    | with_reducible refine firstUnary ?_
      refine Pair.unary rfl rfl rfl rfl rfl (by decide) rfl rfl HEq.rfl
    | with_reducible refine firstBinary ?_
      refine Pair.binary rfl rfl rfl rfl rfl rfl rfl (by decide) (by decide) rfl rfl rfl HEq.rfl
    | with_reducible refine firstNullary ?_
      refine Pair.nullary rfl rfl rfl HEq.rfl
    | with_reducible refine firstReshape ?_
      refine Pair.reshape rfl rfl rfl rfl rfl (by decide) rfl rfl

/-- So many lines compute the order. -/
theorem length_lines : (KernelIdeal.Hand.lines (F := F)).length = 492 := rfl

/-- The lines that compute the order leave the reference's argument alone. -/
theorem orderLines_arg0 (d : Dev ReferenceIdeal.nD) (W : Valuation ReferenceIdeal.τ ReferenceIdeal.sig (Elt F)) :
    after (ReferenceIdeal.Hand.orderLines d) W ReferenceIdeal.main_arg0 = W ReferenceIdeal.main_arg0 := by
  have h := (same (F := F) d).rest W (rval 0) fun i hi hn => (apart 0 i hi hn).2
  rw [length_lines] at h
  exact h

/-- From equal arguments the two programs leave the same sorted positions and the same further word. -/
theorem order_same (d : Dev ReferenceIdeal.nD) (V : Valuation KernelIdeal.τ KernelIdeal.sig (Elt F))
    (W : Valuation ReferenceIdeal.τ ReferenceIdeal.sig (Elt F))
    (h : (V KernelIdeal.main_arg0 : Order.Arr.Idx → F .f32) = W ReferenceIdeal.main_arg0) :
    (after (KernelIdeal.Hand.lines) V KernelIdeal.main_v8 : Order.Seven.Idx → BitVec 32)
        = after (ReferenceIdeal.Hand.orderLines d) W ReferenceIdeal.main_v8
      ∧ (after (KernelIdeal.Hand.lines) V KernelIdeal.main_c : Order.One.Idx → BitVec 32)
        = after (ReferenceIdeal.Hand.orderLines d) W ReferenceIdeal.main_c := by
  have h0 : Agree kval rval 1 V W := fun i hi => by
    obtain rfl : i = 0 := by omega
    exact heq_of_eq h
  have a := (same (F := F) d).agree V W h0
  rw [length_lines] at a
  exact ⟨eq_of_heq (a 492 (by decide)), eq_of_heq (a 1 (by decide))⟩

end Cert.Joint

end
-- ==== Proof.KernelIdealValue.lean ====
/-
  The value of the idealized kernel: each grid point copies one group of one batch member, the group that the table
  names, so the result array is the argument with its groups in the table's order.
-/
module

public import proofs.«01_k».proof.Proof.KernelIdealTable
public import proofs.«01_k».proof.Proof.Shuffled
public import Idealize.ShloMosaic.Lib.Pipeline.ValueKit
public import Idealize.ShloMosaic.Lib.Pipeline.Covers

@[expose] public section

set_option maxRecDepth 16384

noncomputable section

namespace Cert.KernelIdeal.Hand

open Idealize.ShloMosaic hiding ix1 ix2 ix4 ix5 eq_ix4
open Idealize.ShloMosaic.TcCoe Idealize.ShloMosaic.ValueIdx Idealize.ShloMosaic.Pipeline Idealize.SL.Sem
open Cert.KernelIdeal Cert.KernelIdeal.Gen

variable {F : FTy → Type} [FloatOps F]
variable (m : (ℓ : Loc nD τ sig) → Buf (Elt F) ℓ)

/-- The result block of a grid point: its coordinates. -/
theorem map_output (i : grid0.Coords) : cc0_transform_1 i = ![(i 0).val, (i 1).val, (i 2).val, 0] := by
  have h0 : (i 0).val < 4 := (i 0).isLt
  have h1 : (i 1).val < 8 := (i 1).isLt
  have h2 : (i 2).val < 1 := (i 2).isLt
  have e0 : (BitVec.ofNat 32 (i 0).val).toNat = (i 0).val := by simp only [BitVec.toNat_ofNat]; omega
  have e1 : (BitVec.ofNat 32 (i 1).val).toNat = (i 1).val := by simp only [BitVec.toNat_ofNat]; omega
  have e2 : (BitVec.ofNat 32 (i 2).val).toNat = (i 2).val := by simp only [BitVec.toNat_ofNat]; omega
  show ![(BitVec.ofNat 32 (i 0).val).toNat, (BitVec.ofNat 32 (i 1).val).toNat, (BitVec.ofNat 32 (i 2).val).toNat, 0] = _
  rw [e0, e1, e2]

/-- Every block of the result is some grid point's. -/
theorem covers (hO : Ok m) : ((cfgM m hO).win 1).Covers := by
  refine Window.covers_of_indexMap_surj _ rfl (fun a => ?_) fun β => ?_
  · have h : ∀ a : Fin 4, 0 < S1x48x224x224.size a := by decide
    exact h a
  have b0 : (β (0 : Fin 4)).val < 4 := by
    have h := (β (0 : Fin 4)).isLt
    change _ < (4 + 1 - 1) / 1 at h
    omega
  have b1 : (β (1 : Fin 4)).val < 8 := by
    have h := (β (1 : Fin 4)).isLt
    change _ < (384 + 48 - 1) / 48 at h
    omega
  have b2 : (β (2 : Fin 4)).val < 1 := by
    have h := (β (2 : Fin 4)).isLt
    change _ < (224 + 224 - 1) / 224 at h
    omega
  have b3 : (β (3 : Fin 4)).val < 1 := by
    have h := (β (3 : Fin 4)).isLt
    change _ < (224 + 224 - 1) / 224 at h
    omega
  refine ⟨Fin.cons ⟨(β (0 : Fin 4)).val, b0⟩ (Fin.cons ⟨(β (1 : Fin 4)).val, b1⟩
    (Fin.cons ⟨(β (2 : Fin 4)).val, b2⟩ fun a => a.elim0)), fun a => ?_⟩
  show cc0_transform_1 _ a = _
  rw [map_output]
  revert a
  show ∀ a : Fin 4, _
  intro a
  fin_cases a
  · rfl
  · rfl
  · rfl
  · show 0 = (β (3 : Fin 4)).val
    omega

/-- Where a grid point's input block lies in the argument. -/
theorem place_input (hO : Ok m) (t : Fin (cfgM m hO).N) (y : S1x48x224x224.Idx) (a : Fin 4) :
    (((((cfgM m hO).win 0).blk t).view.emb y : S4x384x224x224.Idx) a).val
      = ![(grid0.coords t 0).val, (entry (tbl m) (grid0.coords t)).toNat, (grid0.coords t 2).val, 0] a * S1x48x224x224.size a
        + (y a).val := by
  rw [← map_input]
  exact Window.rect_emb_val ((cfgM m hO).win 0) t y a

/-- Where its result block lies in the result. -/
theorem place_output (hO : Ok m) (t : Fin (cfgM m hO).N) (y : S1x48x224x224.Idx) (a : Fin 4) :
    (((((cfgM m hO).win 1).blk t).view.emb y : S4x384x224x224.Idx) a).val
      = ![(grid0.coords t 0).val, (grid0.coords t 1).val, (grid0.coords t 2).val, 0] a * S1x48x224x224.size a
        + (y a).val := by
  rw [← map_output]
  exact Window.rect_emb_val ((cfgM m hO).win 1) t y a

/-- The entry read at a grid point is the table's at the point's second coordinate. -/
theorem entry_eq (T : pre0.Contents (Elt F)) (i : grid0.Coords) :
    entry T i = (T 0 : S8.Idx → BitVec 32) (ix1 (⟨(i 1).val, (i 1).isLt⟩ : Fin 8)) := by
  have h1 : (i 1).val < 8 := (i 1).isLt
  have e1 : (BitVec.ofNat 32 (i 1).val).toNat = (i 1).val := by simp only [BitVec.toNat_ofNat]; omega
  refine congrArg (T 0 : S8.Idx → BitVec 32) (funext fun a => Fin.ext ?_)
  fin_cases a
  show (BitVec.ofNat 32 (i 1).val).toNat + 1 * 0 = (i 1).val
  rw [e1, Nat.mul_zero, Nat.add_zero]

/-- An input block's element comes from where the shuffle takes the result block's element at the same place. -/
theorem same_place (T : pre0.Contents (Elt F)) (hT : ∀ j, ((T 0 : S8.Idx → BitVec 32) j).toNat < 8) (i : grid0.Coords)
    (y : S1x48x224x224.Idx) (p q : S4x384x224x224.Idx)
    (hp : ∀ a : Fin 4, (p a).val = ![(i 0).val, (entry T i).toNat, (i 2).val, 0] a * S1x48x224x224.size a + (y a).val)
    (hq : ∀ a : Fin 4, (q a).val = ![(i 0).val, (i 1).val, (i 2).val, 0] a * S1x48x224x224.size a + (y a).val) (a : Fin 4) :
    (p a).val = (Order.source (T 0 : S8.Idx → BitVec 32) q a).val := by
  have hy : (y 1).val < 48 := (y 1).isLt
  have q1 : (q 1).val = (i 1).val * 48 + (y 1).val := hq 1
  have hi : (i 1).val < 8 := (i 1).isLt
  fin_cases a
  · exact (hp 0).trans (hq 0).symm
  · have hg : (q 1).val / 48 < 8 := by omega
    have e : (⟨(q 1).val / 48, hg⟩ : Fin 8) = ⟨(i 1).val, hi⟩ := Fin.ext (by show (q 1).val / 48 = (i 1).val; omega)
    have h := hT (ix1 (⟨(i 1).val, hi⟩ : Fin 8))
    show (p 1).val = 48 * (Order.group (T 0 : S8.Idx → BitVec 32) ⟨(q 1).val / 48, hg⟩).val + (q 1).val % 48
    refine (hp 1).trans ?_
    show (entry T i).toNat * 48 + (y 1).val = _
    rw [e, entry_eq]
    show _ = 48 * (((T 0 : S8.Idx → BitVec 32) (ix1 (⟨(i 1).val, hi⟩ : Fin 8))).toNat % 8) + (q 1).val % 48
    omega
  · exact (hp 2).trans (hq 2).symm
  · exact (hp 3).trans (hq 3).symm

/-- The result array after the run. -/
theorem result (hO : Ok m) (c : Dev nD) :
    (dats m hO 0 c).arrAt 1 (cfgM m hO).N
      = Order.shuffled (tbl m 0 : S8.Idx → BitVec 32) (m ((c : Thread nD τ).loc main_arg0) : S4x384x224x224.Idx → F .f32) := by
  refine (dats m hO 0 c).arrAt_eq_of_covers 1 _ (covers m hO) fun t hf y => ?_
  blk_simp
  rw [after0_1]
  unfold outsAt0
  frame_out
  refine (congrFun ((hs0_0 m hO t).read_unread _) y).trans ?_
  show V m c main_arg0 ((((cfgM m hO).win 0).blk t).view.emb y)
    = m ((c : Thread nD τ).loc main_arg0) (Order.source (tbl m 0) ((((cfgM m hO).win 1).blk t).view.emb y))
  rw [V_main_arg0]
  refine congrArg (m ((c : Thread nD τ).loc main_arg0)) (funext fun (a : Fin 4) => Fin.ext ?_)
  have hi := place_input m hO t y
  have ho := place_output m hO t y
  generalize ((((cfgM m hO).win 0).blk t).view.emb y : S4x384x224x224.Idx) = p at hi ⊢
  generalize ((((cfgM m hO).win 1).blk t).view.emb y : S4x384x224x224.Idx) = q at ho ⊢
  revert a
  exact same_place (tbl m) (V_table_lt m 0) (grid0.coords t) y p q hi ho

/-- The run: the result is the argument shuffled by the table, and the argument ends unchanged. -/
theorem run (ρ : Dev nD → PrngReg) :
    θ_run (defs (F := F)) (onTc (τ := τ) (main (F := F))) ⟨m, fun _ => 0, ρ⟩ (fun r => ∀ c : Dev nD,
      r.2.mem ((c : Thread nD τ).loc main_v10)
          = Order.shuffled (tbl m 0 : S8.Idx → BitVec 32) (m ((c : Thread nD τ).loc main_arg0) : S4x384x224x224.Idx → F .f32)
        ∧ r.2.mem ((c : Thread nD τ).loc main_arg0) = m ((c : Thread nD τ).loc main_arg0)) :=
  (θ_run defs _ _).mono (fun _ h c => ⟨((h.1 c).1 1).trans (result m (ok m) c), h.2 c⟩)
    (θ_run_and (run_main m ρ (ok m)) (unchanged m ρ (ok m)))

end Cert.KernelIdeal.Hand

end
-- ==== Proof.Joint.lean ====
/-
  The reference's run, and the comparison of the two programs' results.
-/
module

public import proofs.«01_k».proof.Proof.SameTable
public import proofs.«01_k».proof.Proof.KernelIdealValue

@[expose] public section

set_option maxRecDepth 16384

noncomputable section

namespace Cert.Joint

open Idealize.ShloMosaic Idealize.ShloMosaic.TcCoe Idealize.ShloMosaic.StableHlo Idealize.SL.Sem

variable {F : FTy → Type} [FloatOps F]

section Reference

open Cert.ReferenceIdeal Cert.ReferenceIdeal.Gen Cert.ReferenceIdeal.Hand

variable (m : (ℓ : Loc nD τ sig) → Buf (Elt F) ℓ)

/-- The table that the reference computes on a device. -/
def refTable (d : Dev nD) : Order.Eight.Idx → BitVec 32 :=
  Order.table concatenates_S7_S1_S8_d0 (after (orderLines d) (launchContents m d) main_v8)
    (after (orderLines d) (launchContents m d) main_c)

/-- The reference's run: the result is its last lines' value, the argument ends unchanged, and the counters at zero. -/
theorem ref_run (ρ : Dev nD → PrngReg) :
    θ_run (defs (F := F)) (onTc (τ := τ) (main (F := F))) ⟨m, fun _ => 0, ρ⟩ (fun r => (∀ d : Dev nD,
      r.2.mem ((d.tc : Thread nD τ).loc main_v18)
          = regrouped (refTable m d) (m ((d.tc : Thread nD τ).loc main_arg0) : S4x384x224x224.Idx → F .f32)
        ∧ r.2.mem ((d.tc : Thread nD τ).loc main_arg0) = m ((d.tc : Thread nD τ).loc main_arg0))
      ∧ r.2.sem = fun _ => 0) := by
  refine (θ_run defs _ _).mono (fun r h => ⟨fun d => ⟨?_, ?_⟩, sem_eq_zero_of_no_sems rfl _⟩)
    (run_seq (by decide) (by decide) defs main (fun d => (whole d).line) (fun d => (whole d).runs)
      (fun d => List.forall_iff_forall_mem.mpr (whole d).onDevice) m ρ (fun d => (whole d).settled))
  · rw [h d main_v18, whole_line, after_append, lastLines_result, orderLines_arg0]
    rfl
  · rw [h d main_arg0, whole_line, after_append, lastLines_arg0, orderLines_arg0]

end Reference

/-- From equal arguments the two programs compute the same table. -/
theorem table_same (m : (ℓ : Loc KernelIdeal.nD KernelIdeal.τ KernelIdeal.sig) → Buf (Elt F) ℓ)
    (m' : (ℓ : Loc ReferenceIdeal.nD ReferenceIdeal.τ ReferenceIdeal.sig) → Buf (Elt F) ℓ)
    (h : (m (((0 : Dev KernelIdeal.nD).tc : Thread KernelIdeal.nD KernelIdeal.τ).loc KernelIdeal.main_arg0) : Order.Arr.Idx → F .f32)
      = m' (((0 : Dev ReferenceIdeal.nD).tc : Thread ReferenceIdeal.nD ReferenceIdeal.τ).loc ReferenceIdeal.main_arg0)) :
    (KernelIdeal.Gen.tbl m 0 : Order.Eight.Idx → BitVec 32) = refTable m' 0 := by
  obtain ⟨h8, hc⟩ := order_same 0 (fun b => m (0, b)) (launchContents m' 0) h
  refine (KernelIdeal.Hand.V_table m 0).trans ?_
  unfold refTable
  rw [← h8, ← hc]

/-- So their results are the same. -/
theorem result_same (m : (ℓ : Loc KernelIdeal.nD KernelIdeal.τ KernelIdeal.sig) → Buf (Elt F) ℓ)
    (m' : (ℓ : Loc ReferenceIdeal.nD ReferenceIdeal.τ ReferenceIdeal.sig) → Buf (Elt F) ℓ)
    (h : ∀ c : Dev KernelIdeal.nD, m' ((c.tc : Thread ReferenceIdeal.nD ReferenceIdeal.τ).loc ReferenceIdeal.main_arg0)
      = m ((c.tc : Thread KernelIdeal.nD KernelIdeal.τ).loc KernelIdeal.main_arg0)) (c : Dev KernelIdeal.nD) :
    ReferenceIdeal.Hand.regrouped (refTable m' c)
        (m' ((c.tc : Thread ReferenceIdeal.nD ReferenceIdeal.τ).loc ReferenceIdeal.main_arg0) : Order.Arr.Idx → F .f32)
      = Order.shuffled (KernelIdeal.Gen.tbl m 0 : Order.Eight.Idx → BitVec 32)
        (m ((c.tc : Thread KernelIdeal.nD KernelIdeal.τ).loc KernelIdeal.main_arg0) : Order.Arr.Idx → F .f32) := by
  obtain rfl : c = 0 := Subsingleton.elim _ _
  rw [← table_same m m' (h 0).symm]
  exact (ReferenceIdeal.Hand.regrouped_eq _ (KernelIdeal.Hand.V_table_lt m 0) _).trans (congrArg _ (h 0))

end Cert.Joint

end
-- ==== Proof.lean ====
/-
  The five claims put together: the two kernels' frames, the reference's, and the equality of the idealized kernel's
  result with the reference's.
-/
module

public import proofs.«01_k».proof.Defs
public import proofs.«01_k».proof.Proof.KernelTable
public import proofs.«01_k».proof.Proof.Joint

@[expose] public section

noncomputable section

namespace Cert.Proof

open Idealize.ShloMosaic Idealize.SL.Sem

/-- The reference's arguments end unchanged and its counters at zero. -/
theorem frame_reference : Cert.quiescent_ReferenceIdeal (hReferenceIdeal := Cert.ReferenceIdeal.Gen.facts) := fun m ρ _ =>
  (θ_run _ _ _).mono (fun _ h => ⟨fun c => (h.1 c).2, h.2⟩) (Cert.Joint.ref_run m ρ)

/-- Both idealized programs end with the argument's groups in the table's order. -/
theorem value : Cert.algebraic_KernelIdeal_ReferenceIdeal (hKernelIdeal := Cert.KernelIdeal.Gen.facts)
    (hReferenceIdeal := Cert.ReferenceIdeal.Gen.facts) := fun m g m' g' _ h =>
  ⟨_, Cert.KernelIdeal.Hand.run m g,
    (θ_run _ _ _).mono (fun _ hr c => ⟨(hr.1 c).1.trans (Cert.Joint.result_same m m' h c), (hr.1 c).2⟩)
      (Cert.Joint.ref_run m' g')⟩

theorem claim : Cert.Claim :=
  ⟨Cert.Kernel.Gen.facts, Cert.KernelIdeal.Gen.facts, Cert.ReferenceIdeal.Gen.facts,
    fun m ρ _ => Cert.Kernel.Gen.frame m ρ (Cert.Kernel.Hand.ok m),
    fun m ρ _ => Cert.KernelIdeal.Gen.frame m ρ (Cert.KernelIdeal.Hand.ok m),
    frame_reference, trivial, value⟩

end Cert.Proof

end
